-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_above_threshold [hPre_logits_above_threshold : Cert.Pre_logits_above_threshold.Facts] (m : (ℓ : Loc Cert.KernelIdeal.nD Cert.KernelIdeal.τ Cert.KernelIdeal.sig) → Buf (Elt Ideal) ℓ) : Prop :=
  ∀ c : Dev Cert.KernelIdeal.nD,
    (Cert.Pre_logits_above_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_above_threshold [hPre_logits_above_threshold : Cert.Pre_logits_above_threshold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_above_threshold.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_logits_above_threshold [hKernelIdeal : Cert.KernelIdeal.Facts] [hPre_logits_above_threshold : Cert.Pre_logits_above_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_above_threshold m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_logits_above_threshold [hReferenceIdeal : Cert.ReferenceIdeal.Facts] [hPre_logits_above_threshold : Cert.Pre_logits_above_threshold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_above_threshold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_logits_above_threshold [hKernelIdeal : Cert.KernelIdeal.Facts] [hReferenceIdeal : Cert.ReferenceIdeal.Facts] [hPre_logits_above_threshold : Cert.Pre_logits_above_threshold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_above_threshold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_logits_above_threshold : Cert.Pre_logits_above_threshold.Facts),
    quiescent_Kernel (hKernel := hKernel)
    ∧ quiescent_KernelIdeal (hKernelIdeal := hKernelIdeal)
    ∧ quiescent_KernelIdeal_pre_logits_above_threshold (hKernelIdeal := hKernelIdeal) (hPre_logits_above_threshold := hPre_logits_above_threshold)
    ∧ quiescent_ReferenceIdeal (hReferenceIdeal := hReferenceIdeal)
    ∧ quiescent_ReferenceIdeal_pre_logits_above_threshold (hReferenceIdeal := hReferenceIdeal) (hPre_logits_above_threshold := hPre_logits_above_threshold)
    ∧ preserves_Kernel_KernelIdeal
    ∧ algebraic_KernelIdeal_ReferenceIdeal_pre_logits_above_threshold (hKernelIdeal := hKernelIdeal) (hReferenceIdeal := hReferenceIdeal) (hPre_logits_above_threshold := hPre_logits_above_threshold)
-- ==== Pre_logits_above_threshold.lean ====
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S8192x64 : Shape := ⟨2, ![8192, 64]⟩
abbrev S2048x16x128 : Shape := ⟨3, ![2048, 16, 128]⟩
abbrev S_ : Shape := ⟨0, ![]⟩
abbrev S2048x1 : Shape := ⟨2, ![2048, 1]⟩
abbrev S1x128 : Shape := ⟨2, ![1, 128]⟩
abbrev S2048x64 : Shape := ⟨2, ![2048, 64]⟩
abbrev S2048x32 : Shape := ⟨2, ![2048, 32]⟩
abbrev S2048x1x32 : Shape := ⟨3, ![2048, 1, 32]⟩
abbrev S2048x16x32 : Shape := ⟨3, ![2048, 16, 32]⟩
abbrev S2048x16x64 : Shape := ⟨3, ![2048, 16, 64]⟩
abbrev S32768x128 : Shape := ⟨2, ![32768, 128]⟩
abbrev S32768x64x2x1 : Shape := ⟨4, ![32768, 64, 2, 1]⟩
abbrev S32768x64x1x1 : Shape := ⟨4, ![32768, 64, 1, 1]⟩
abbrev S32768x64x1 : Shape := ⟨3, ![32768, 64, 1]⟩
abbrev S32768x64x2 : Shape := ⟨3, ![32768, 64, 2]⟩
abbrev S32768x32x2x2 : Shape := ⟨4, ![32768, 32, 2, 2]⟩
abbrev S32768x32x1x2 : Shape := ⟨4, ![32768, 32, 1, 2]⟩
abbrev S32768x32x2 : Shape := ⟨3, ![32768, 32, 2]⟩
abbrev S32768x32x4 : Shape := ⟨3, ![32768, 32, 4]⟩
abbrev S32768x16x2x4 : Shape := ⟨4, ![32768, 16, 2, 4]⟩
abbrev S32768x16x1x4 : Shape := ⟨4, ![32768, 16, 1, 4]⟩
abbrev S32768x16x4 : Shape := ⟨3, ![32768, 16, 4]⟩
abbrev S32768x16x8 : Shape := ⟨3, ![32768, 16, 8]⟩
abbrev S32768x8x2x8 : Shape := ⟨4, ![32768, 8, 2, 8]⟩
abbrev S32768x8x1x8 : Shape := ⟨4, ![32768, 8, 1, 8]⟩
abbrev S32768x8x8 : Shape := ⟨3, ![32768, 8, 8]⟩
abbrev S32768x8x16 : Shape := ⟨3, ![32768, 8, 16]⟩
abbrev S32768x4x2x16 : Shape := ⟨4, ![32768, 4, 2, 16]⟩
abbrev S32768x4x1x16 : Shape := ⟨4, ![32768, 4, 1, 16]⟩
abbrev S32768x4x16 : Shape := ⟨3, ![32768, 4, 16]⟩
abbrev S32768x4x32 : Shape := ⟨3, ![32768, 4, 32]⟩
abbrev S32768x2x2x32 : Shape := ⟨4, ![32768, 2, 2, 32]⟩
abbrev S32768x2x1x32 : Shape := ⟨4, ![32768, 2, 1, 32]⟩
abbrev S32768x2x32 : Shape := ⟨3, ![32768, 2, 32]⟩
abbrev S32768x2x64 : Shape := ⟨3, ![32768, 2, 64]⟩
abbrev S32768x1x2x64 : Shape := ⟨4, ![32768, 1, 2, 64]⟩
abbrev S32768x1x1x64 : Shape := ⟨4, ![32768, 1, 1, 64]⟩
abbrev S32768x1x64 : Shape := ⟨3, ![32768, 1, 64]⟩
abbrev S32768x1x128 : Shape := ⟨3, ![32768, 1, 128]⟩
abbrev S2048x64x2x1 : Shape := ⟨4, ![2048, 64, 2, 1]⟩
abbrev S2048x64x1x1 : Shape := ⟨4, ![2048, 64, 1, 1]⟩
abbrev S2048x64x1 : Shape := ⟨3, ![2048, 64, 1]⟩
abbrev S2048x64x2 : Shape := ⟨3, ![2048, 64, 2]⟩
abbrev S2048x32x2x2 : Shape := ⟨4, ![2048, 32, 2, 2]⟩
abbrev S2048x32x1x2 : Shape := ⟨4, ![2048, 32, 1, 2]⟩
abbrev S2048x32x2 : Shape := ⟨3, ![2048, 32, 2]⟩
abbrev S2048x32x4 : Shape := ⟨3, ![2048, 32, 4]⟩
abbrev S2048x16x2x4 : Shape := ⟨4, ![2048, 16, 2, 4]⟩
abbrev S2048x16x1x4 : Shape := ⟨4, ![2048, 16, 1, 4]⟩
abbrev S2048x16x4 : Shape := ⟨3, ![2048, 16, 4]⟩
abbrev S2048x16x8 : Shape := ⟨3, ![2048, 16, 8]⟩
abbrev S2048x8x2x8 : Shape := ⟨4, ![2048, 8, 2, 8]⟩
abbrev S2048x8x1x8 : Shape := ⟨4, ![2048, 8, 1, 8]⟩
abbrev S2048x8x8 : Shape := ⟨3, ![2048, 8, 8]⟩
abbrev S2048x8x16 : Shape := ⟨3, ![2048, 8, 16]⟩
abbrev S2048x4x2x16 : Shape := ⟨4, ![2048, 4, 2, 16]⟩
abbrev S2048x4x1x16 : Shape := ⟨4, ![2048, 4, 1, 16]⟩
abbrev S2048x4x16 : Shape := ⟨3, ![2048, 4, 16]⟩
abbrev S2048x4x32 : Shape := ⟨3, ![2048, 4, 32]⟩
abbrev S2048x2x2x32 : Shape := ⟨4, ![2048, 2, 2, 32]⟩
abbrev S2048x2x1x32 : Shape := ⟨4, ![2048, 2, 1, 32]⟩
abbrev S2048x2x32 : Shape := ⟨3, ![2048, 2, 32]⟩
abbrev S2048x2x64 : Shape := ⟨3, ![2048, 2, 64]⟩
abbrev S2048x1x2x64 : Shape := ⟨4, ![2048, 1, 2, 64]⟩
abbrev S2048x1x1x64 : Shape := ⟨4, ![2048, 1, 1, 64]⟩
abbrev S2048x1x64 : Shape := ⟨3, ![2048, 1, 64]⟩
abbrev S2048x1x128 : Shape := ⟨3, ![2048, 1, 128]⟩
abbrev S2048x16x1 : Shape := ⟨3, ![2048, 16, 1]⟩
abbrev S2048x16x1x128 : Shape := ⟨4, ![2048, 16, 1, 128]⟩
abbrev S1x1x2048x128 : Shape := ⟨4, ![1, 1, 2048, 128]⟩
abbrev S2048x16x2048x128 : Shape := ⟨4, ![2048, 16, 2048, 128]⟩
abbrev S2048x16x2048 : Shape := ⟨3, ![2048, 16, 2048]⟩
abbrev S1x1x2048 : Shape := ⟨3, ![1, 1, 2048]⟩
abbrev S1x2048 : Shape := ⟨2, ![1, 2048]⟩

class Facts : Prop where
  shapeCasts_S2048x2048_S2048x16x128 : S2048x2048.ShapeCasts S2048x16x128
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048 : S_.BroadcastsInDim S2048 (![] : Fin 0 → Fin S2048.rank)
  slices_S2048x64_S2048x32_0_0 : S2048x64.Slices ![0, 0] S2048x32
  slices_S2048x64_S2048x32_0_32 : S2048x64.Slices ![0, 32] S2048x32
  bcast_S2048x32_S2048x1x32_0_2 : S2048x32.BroadcastsInDim S2048x1x32 (![0, 2] : Fin 2 → Fin S2048x1x32.rank)
  slices_S2048x16x128_S2048x16x32_0_0_0 : S2048x16x128.Slices ![0, 0, 0] S2048x16x32
  slices_S2048x16x128_S2048x16x32_0_0_32 : S2048x16x128.Slices ![0, 0, 32] S2048x16x32
  bcast_S2048x1x32_S2048x16x32_0_1_2 : S2048x1x32.BroadcastsInDim S2048x16x32 (![0, 1, 2] : Fin 3 → Fin S2048x16x32.rank)
  slices_S2048x16x128_S2048x16x64_0_0_64 : S2048x16x128.Slices ![0, 0, 64] S2048x16x64
  concatenates_S2048x16x32_S2048x16x32_S2048x16x64_S2048x16x128_d2 : Shape.Concatenates [S2048x16x32, S2048x16x32, S2048x16x64] S2048x16x128 2
  slices_S2048x128_S2048x32_0_0 : S2048x128.Slices ![0, 0] S2048x32
  slices_S2048x128_S2048x32_0_32 : S2048x128.Slices ![0, 32] S2048x32
  slices_S2048x128_S2048x64_0_64 : S2048x128.Slices ![0, 64] S2048x64
  concatenates_S2048x32_S2048x32_S2048x64_S2048x128_d1 : Shape.Concatenates [S2048x32, S2048x32, S2048x64] S2048x128 1
  shapeCasts_S2048x16x128_S32768x128 : S2048x16x128.ShapeCasts S32768x128
  shapeCasts_S32768x128_S32768x64x2x1 : S32768x128.ShapeCasts S32768x64x2x1
  slices_S32768x64x2x1_S32768x64x1x1_0_0_0_0 : S32768x64x2x1.Slices ![0, 0, 0, 0] S32768x64x1x1
  shapeCasts_S32768x64x1x1_S32768x64x1 : S32768x64x1x1.ShapeCasts S32768x64x1
  slices_S32768x64x2x1_S32768x64x1x1_0_0_1_0 : S32768x64x2x1.Slices ![0, 0, 1, 0] S32768x64x1x1
  concatenates_S32768x64x1_S32768x64x1_S32768x64x2_d2 : Shape.Concatenates [S32768x64x1, S32768x64x1] S32768x64x2 2
  shapeCasts_S32768x64x2_S32768x128 : S32768x64x2.ShapeCasts S32768x128
  shapeCasts_S32768x128_S32768x32x2x2 : S32768x128.ShapeCasts S32768x32x2x2
  slices_S32768x32x2x2_S32768x32x1x2_0_0_0_0 : S32768x32x2x2.Slices ![0, 0, 0, 0] S32768x32x1x2
  shapeCasts_S32768x32x1x2_S32768x32x2 : S32768x32x1x2.ShapeCasts S32768x32x2
  slices_S32768x32x2x2_S32768x32x1x2_0_0_1_0 : S32768x32x2x2.Slices ![0, 0, 1, 0] S32768x32x1x2
  concatenates_S32768x32x2_S32768x32x2_S32768x32x4_d2 : Shape.Concatenates [S32768x32x2, S32768x32x2] S32768x32x4 2
  shapeCasts_S32768x32x4_S32768x128 : S32768x32x4.ShapeCasts S32768x128
  shapeCasts_S32768x128_S32768x16x2x4 : S32768x128.ShapeCasts S32768x16x2x4
  slices_S32768x16x2x4_S32768x16x1x4_0_0_0_0 : S32768x16x2x4.Slices ![0, 0, 0, 0] S32768x16x1x4
  shapeCasts_S32768x16x1x4_S32768x16x4 : S32768x16x1x4.ShapeCasts S32768x16x4
  slices_S32768x16x2x4_S32768x16x1x4_0_0_1_0 : S32768x16x2x4.Slices ![0, 0, 1, 0] S32768x16x1x4
  concatenates_S32768x16x4_S32768x16x4_S32768x16x8_d2 : Shape.Concatenates [S32768x16x4, S32768x16x4] S32768x16x8 2
  shapeCasts_S32768x16x8_S32768x128 : S32768x16x8.ShapeCasts S32768x128
  shapeCasts_S32768x128_S32768x8x2x8 : S32768x128.ShapeCasts S32768x8x2x8
  slices_S32768x8x2x8_S32768x8x1x8_0_0_0_0 : S32768x8x2x8.Slices ![0, 0, 0, 0] S32768x8x1x8
  shapeCasts_S32768x8x1x8_S32768x8x8 : S32768x8x1x8.ShapeCasts S32768x8x8
  slices_S32768x8x2x8_S32768x8x1x8_0_0_1_0 : S32768x8x2x8.Slices ![0, 0, 1, 0] S32768x8x1x8
  concatenates_S32768x8x8_S32768x8x8_S32768x8x16_d2 : Shape.Concatenates [S32768x8x8, S32768x8x8] S32768x8x16 2
  shapeCasts_S32768x8x16_S32768x128 : S32768x8x16.ShapeCasts S32768x128
  shapeCasts_S32768x128_S32768x4x2x16 : S32768x128.ShapeCasts S32768x4x2x16
  slices_S32768x4x2x16_S32768x4x1x16_0_0_0_0 : S32768x4x2x16.Slices ![0, 0, 0, 0] S32768x4x1x16
  shapeCasts_S32768x4x1x16_S32768x4x16 : S32768x4x1x16.ShapeCasts S32768x4x16
  slices_S32768x4x2x16_S32768x4x1x16_0_0_1_0 : S32768x4x2x16.Slices ![0, 0, 1, 0] S32768x4x1x16
  concatenates_S32768x4x16_S32768x4x16_S32768x4x32_d2 : Shape.Concatenates [S32768x4x16, S32768x4x16] S32768x4x32 2
  shapeCasts_S32768x4x32_S32768x128 : S32768x4x32.ShapeCasts S32768x128
  shapeCasts_S32768x128_S32768x2x2x32 : S32768x128.ShapeCasts S32768x2x2x32
  slices_S32768x2x2x32_S32768x2x1x32_0_0_0_0 : S32768x2x2x32.Slices ![0, 0, 0, 0] S32768x2x1x32
  shapeCasts_S32768x2x1x32_S32768x2x32 : S32768x2x1x32.ShapeCasts S32768x2x32
  slices_S32768x2x2x32_S32768x2x1x32_0_0_1_0 : S32768x2x2x32.Slices ![0, 0, 1, 0] S32768x2x1x32
  concatenates_S32768x2x32_S32768x2x32_S32768x2x64_d2 : Shape.Concatenates [S32768x2x32, S32768x2x32] S32768x2x64 2
  shapeCasts_S32768x2x64_S32768x128 : S32768x2x64.ShapeCasts S32768x128
  shapeCasts_S32768x128_S32768x1x2x64 : S32768x128.ShapeCasts S32768x1x2x64
  slices_S32768x1x2x64_S32768x1x1x64_0_0_0_0 : S32768x1x2x64.Slices ![0, 0, 0, 0] S32768x1x1x64
  shapeCasts_S32768x1x1x64_S32768x1x64 : S32768x1x1x64.ShapeCasts S32768x1x64
  slices_S32768x1x2x64_S32768x1x1x64_0_0_1_0 : S32768x1x2x64.Slices ![0, 0, 1, 0] S32768x1x1x64
  concatenates_S32768x1x64_S32768x1x64_S32768x1x128_d2 : Shape.Concatenates [S32768x1x64, S32768x1x64] S32768x1x128 2
  shapeCasts_S32768x1x128_S32768x128 : S32768x1x128.ShapeCasts S32768x128
  shapeCasts_S32768x128_S2048x16x128 : S32768x128.ShapeCasts S2048x16x128
  bcast_S_S2048x16x128 : S_.BroadcastsInDim S2048x16x128 (![] : Fin 0 → Fin S2048x16x128.rank)
  shapeCasts_S2048x128_S2048x64x2x1 : S2048x128.ShapeCasts S2048x64x2x1
  slices_S2048x64x2x1_S2048x64x1x1_0_0_0_0 : S2048x64x2x1.Slices ![0, 0, 0, 0] S2048x64x1x1
  shapeCasts_S2048x64x1x1_S2048x64x1 : S2048x64x1x1.ShapeCasts S2048x64x1
  slices_S2048x64x2x1_S2048x64x1x1_0_0_1_0 : S2048x64x2x1.Slices ![0, 0, 1, 0] S2048x64x1x1
  concatenates_S2048x64x1_S2048x64x1_S2048x64x2_d2 : Shape.Concatenates [S2048x64x1, S2048x64x1] S2048x64x2 2
  shapeCasts_S2048x64x2_S2048x128 : S2048x64x2.ShapeCasts S2048x128
  shapeCasts_S2048x128_S2048x32x2x2 : S2048x128.ShapeCasts S2048x32x2x2
  slices_S2048x32x2x2_S2048x32x1x2_0_0_0_0 : S2048x32x2x2.Slices ![0, 0, 0, 0] S2048x32x1x2
  shapeCasts_S2048x32x1x2_S2048x32x2 : S2048x32x1x2.ShapeCasts S2048x32x2
  slices_S2048x32x2x2_S2048x32x1x2_0_0_1_0 : S2048x32x2x2.Slices ![0, 0, 1, 0] S2048x32x1x2
  concatenates_S2048x32x2_S2048x32x2_S2048x32x4_d2 : Shape.Concatenates [S2048x32x2, S2048x32x2] S2048x32x4 2
  shapeCasts_S2048x32x4_S2048x128 : S2048x32x4.ShapeCasts S2048x128
  shapeCasts_S2048x128_S2048x16x2x4 : S2048x128.ShapeCasts S2048x16x2x4
  slices_S2048x16x2x4_S2048x16x1x4_0_0_0_0 : S2048x16x2x4.Slices ![0, 0, 0, 0] S2048x16x1x4
  shapeCasts_S2048x16x1x4_S2048x16x4 : S2048x16x1x4.ShapeCasts S2048x16x4
  slices_S2048x16x2x4_S2048x16x1x4_0_0_1_0 : S2048x16x2x4.Slices ![0, 0, 1, 0] S2048x16x1x4
  concatenates_S2048x16x4_S2048x16x4_S2048x16x8_d2 : Shape.Concatenates [S2048x16x4, S2048x16x4] S2048x16x8 2
  shapeCasts_S2048x16x8_S2048x128 : S2048x16x8.ShapeCasts S2048x128
  shapeCasts_S2048x128_S2048x8x2x8 : S2048x128.ShapeCasts S2048x8x2x8
  slices_S2048x8x2x8_S2048x8x1x8_0_0_0_0 : S2048x8x2x8.Slices ![0, 0, 0, 0] S2048x8x1x8
  shapeCasts_S2048x8x1x8_S2048x8x8 : S2048x8x1x8.ShapeCasts S2048x8x8
  slices_S2048x8x2x8_S2048x8x1x8_0_0_1_0 : S2048x8x2x8.Slices ![0, 0, 1, 0] S2048x8x1x8
  concatenates_S2048x8x8_S2048x8x8_S2048x8x16_d2 : Shape.Concatenates [S2048x8x8, S2048x8x8] S2048x8x16 2
  shapeCasts_S2048x8x16_S2048x128 : S2048x8x16.ShapeCasts S2048x128
  shapeCasts_S2048x128_S2048x4x2x16 : S2048x128.ShapeCasts S2048x4x2x16
  slices_S2048x4x2x16_S2048x4x1x16_0_0_0_0 : S2048x4x2x16.Slices ![0, 0, 0, 0] S2048x4x1x16
  shapeCasts_S2048x4x1x16_S2048x4x16 : S2048x4x1x16.ShapeCasts S2048x4x16
  slices_S2048x4x2x16_S2048x4x1x16_0_0_1_0 : S2048x4x2x16.Slices ![0, 0, 1, 0] S2048x4x1x16
  concatenates_S2048x4x16_S2048x4x16_S2048x4x32_d2 : Shape.Concatenates [S2048x4x16, S2048x4x16] S2048x4x32 2
  shapeCasts_S2048x4x32_S2048x128 : S2048x4x32.ShapeCasts S2048x128
  shapeCasts_S2048x128_S2048x2x2x32 : S2048x128.ShapeCasts S2048x2x2x32
  slices_S2048x2x2x32_S2048x2x1x32_0_0_0_0 : S2048x2x2x32.Slices ![0, 0, 0, 0] S2048x2x1x32
  shapeCasts_S2048x2x1x32_S2048x2x32 : S2048x2x1x32.ShapeCasts S2048x2x32
  slices_S2048x2x2x32_S2048x2x1x32_0_0_1_0 : S2048x2x2x32.Slices ![0, 0, 1, 0] S2048x2x1x32
  concatenates_S2048x2x32_S2048x2x32_S2048x2x64_d2 : Shape.Concatenates [S2048x2x32, S2048x2x32] S2048x2x64 2
  shapeCasts_S2048x2x64_S2048x128 : S2048x2x64.ShapeCasts S2048x128
  shapeCasts_S2048x128_S2048x1x2x64 : S2048x128.ShapeCasts S2048x1x2x64
  slices_S2048x1x2x64_S2048x1x1x64_0_0_0_0 : S2048x1x2x64.Slices ![0, 0, 0, 0] S2048x1x1x64
  shapeCasts_S2048x1x1x64_S2048x1x64 : S2048x1x1x64.ShapeCasts S2048x1x64
  slices_S2048x1x2x64_S2048x1x1x64_0_0_1_0 : S2048x1x2x64.Slices ![0, 0, 1, 0] S2048x1x1x64
  concatenates_S2048x1x64_S2048x1x64_S2048x1x128_d2 : Shape.Concatenates [S2048x1x64, S2048x1x64] S2048x1x128 2
  shapeCasts_S2048x1x128_S2048x128 : S2048x1x128.ShapeCasts S2048x128
  bcast_S_S2048x128 : S_.BroadcastsInDim S2048x128 (![] : Fin 0 → Fin S2048x128.rank)
  reducesTo_S2048x16x128_S2048x16_d2 : S2048x16x128.ReducesTo [2] S2048x16
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  bcast_S2048x16x1_S2048x16x128_0_1_2 : S2048x16x1.BroadcastsInDim S2048x16x128 (![0, 1, 2] : Fin 3 → Fin S2048x16x128.rank)
  shapeCasts_S2048x16x1_S2048x16 : S2048x16x1.ShapeCasts S2048x16
  bcast_S2048x16x128_S2048x16x1x128_0_1_3 : S2048x16x128.BroadcastsInDim S2048x16x1x128 (![0, 1, 3] : Fin 3 → Fin S2048x16x1x128.rank)
  bcast_S2048x128_S1x1x2048x128_2_3 : S2048x128.BroadcastsInDim S1x1x2048x128 (![2, 3] : Fin 2 → Fin S1x1x2048x128.rank)
  bcast_S2048x16x1x128_S2048x16x2048x128_0_1_2_3 : S2048x16x1x128.BroadcastsInDim S2048x16x2048x128 (![0, 1, 2, 3] : Fin 4 → Fin S2048x16x2048x128.rank)
  bcast_S1x1x2048x128_S2048x16x2048x128_0_1_2_3 : S1x1x2048x128.BroadcastsInDim S2048x16x2048x128 (![0, 1, 2, 3] : Fin 4 → Fin S2048x16x2048x128.rank)
  reducesTo_S2048x16x2048x128_S2048x16x2048_d3 : S2048x16x2048x128.ReducesTo [3] S2048x16x2048
  shapeCasts_S2048x1_S2048 : S2048x1.ShapeCasts S2048
  bcast_S2048_S1x1x2048_2 : S2048.BroadcastsInDim S1x1x2048 (![2] : Fin 1 → Fin S1x1x2048.rank)
  bcast_S1x1x2048_S2048x16x2048_0_1_2 : S1x1x2048.BroadcastsInDim S2048x16x2048 (![0, 1, 2] : Fin 3 → Fin S2048x16x2048.rank)
  bcast_S_S2048x16x2048 : S_.BroadcastsInDim S2048x16x2048 (![] : Fin 0 → Fin S2048x16x2048.rank)
  bcast_S2048x16x1_S2048x16x2048_0_1_2 : S2048x16x1.BroadcastsInDim S2048x16x2048 (![0, 1, 2] : Fin 3 → Fin S2048x16x2048.rank)
  reducesTo_S2048x16x2048_S2048x2048_d1 : S2048x16x2048.ReducesTo [1] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  dot_S2048x1536_S1536x2048_S2048x2048_1_0_0_1_n_n_wf : DotDims.WF S2048x1536 S1536x2048 S2048x2048 [1] [0] [0] [1] [] []
  dot_S2048x2048_S2048x128_S2048x128_1_0_0_1_n_n_wf : DotDims.WF S2048x2048 S2048x128 S2048x128 [1] [0] [0] [1] [] []
  gather_S8192x64_S2048x1_S2048x64_1_0_n_n_0_1_164_wf : GatherDims.WF S8192x64 S2048x1 S2048x64 [1] [0] [] [0] [] 1 ![1, 64]
  dot_S2048x2048_S2048x16_S2048x16_1_0_0_1_n_n_wf : DotDims.WF S2048x2048 S2048x16 S2048x16 [1] [0] [0] [1] [] []

variable [Facts]

def dot_S2048x1536_S1536x2048_S2048x2048_1_0_0_1_n_n : DotDims S2048x1536 S1536x2048 S2048x2048 where
  lhsContracting := [1]
  rhsContracting := [0]
  lhsNonContracting := [0]
  rhsNonContracting := [1]
  lhsBatch := []
  rhsBatch := []
  wf := dot_S2048x1536_S1536x2048_S2048x2048_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def gather_S8192x64_S2048x1_S2048x64_1_0_n_n_0_1_164 : GatherDims S8192x64 S2048x1 S2048x64 where
  offsetDims := [1]
  collapsedSliceDims := [0]
  operandBatchingDims := []
  startIndicesBatchingDims := []
  startIndexMap := [0]
  indexVectorDim := 1
  sliceSizes := ![1, 64]
  wf := gather_S8192x64_S2048x1_S2048x64_1_0_n_n_0_1_164_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def fn_relu {F : FTy → Type} [FloatOps F] (arg0 : FVec F S2048x16x2048 .f32) : FVec F S2048x16x2048 .f32 :=
  let cst : FVec F S_ .f32 := constant S_ .f32 0x00000000#32
  let v0 : FVec F S2048x16x2048 .f32 := broadcastInDim S2048x16x2048 ![] bcast_S_S2048x16x2048 cst
  let v1 : FVec F S2048x16x2048 .f32 := maximumf arg0 v0
  v1

def fn_where {F : FTy → Type} [FloatOps F] (arg0 : IVec S2048x2048 1) (arg1 : FVec F S2048x2048 .f32) (arg2 : FVec F S_ .f32) : FVec F S2048x2048 .f32 :=
  let v0 : FVec F S_ .f32 := id arg2
  let v1 : FVec F S2048x2048 .f32 := broadcastInDim S2048x2048 ![] bcast_S_S2048x2048 v0
  let v2 : FVec F S2048x2048 .f32 := select arg0 arg1 v1
  v2

def fn_part10 {F : FTy → Type} [FloatOps F] (main_v209 : FVec F S2048x1 .f32) (main_v217 : FVec F S2048x16 .f32) (main_v222 : FVec F S2048x16x2048x128 .f32) (main_cst_14 : FVec F S_ .f32) : IVec S2048x2048 1 :=
  let main_v223 : FVec F S2048x16x2048 .f32 := (fun x v => Host.reduceAdd x v reducesTo_S2048x16x2048x128_S2048x16x2048_d3 h_S_) main_v222 main_cst_14
  let main_v224 : FVec F S2048 .f32 := shapeCast S2048 main_v209 shapeCasts_S2048x1_S2048
  let main_v225 : FVec F S1x1x2048 .f32 := broadcastInDim S1x1x2048 ![2] bcast_S2048_S1x1x2048_2 main_v224
  let main_v226 : FVec F S2048x16x2048 .f32 := broadcastInDim S2048x16x2048 ![0, 1, 2] bcast_S1x1x2048_S2048x16x2048_0_1_2 main_v225
  let main_v227 : FVec F S2048x16x2048 .f32 := mulf main_v223 main_v226
  let main_v228 : FVec F S2048x16x2048 .f32 := fn_relu (F := F) main_v227
  let main_v229 : FVec F S2048x16x1 .f32 := broadcastInDim S2048x16x1 ![0, 1] bcast_S2048x16_S2048x16x1_0_1 main_v217
  let main_v230 : FVec F S2048x16x2048 .f32 := broadcastInDim S2048x16x2048 ![0, 1, 2] bcast_S2048x16x1_S2048x16x2048_0_1_2 main_v229
  let main_v231 : FVec F S2048x16x2048 .f32 := mulf main_v228 main_v230
  let main_cst_15 : FVec F S_ .f32 := constant S_ .f32 0x00000000#32
  let main_v232 : FVec F S2048x2048 .f32 := (fun x v => Host.reduceAdd x v reducesTo_S2048x16x2048_S2048x2048_d1 h_S_) main_v231 main_cst_15
  let main_v233 : IVec S2048 32 := iotaInDim S2048 32 0
  let main_v234 : IVec S1x2048 32 := broadcastInDim S1x2048 ![1] bcast_S2048_S1x2048_1 main_v233
  let main_v235 : IVec S2048 32 := iotaInDim S2048 32 0
  let main_v236 : IVec S2048x1 32 := broadcastInDim S2048x1 ![0] bcast_S2048_S2048x1_0 main_v235
  let main_v237 : IVec S2048x2048 32 := broadcastInDim S2048x2048 ![0, 1] bcast_S1x2048_S2048x2048_0_1 main_v234
  let main_v238 : IVec S2048x2048 32 := broadcastInDim S2048x2048 ![0, 1] bcast_S2048x1_S2048x2048_0_1 main_v236
  let main_v239 : IVec S2048x2048 1 := cmpi .sle main_v237 main_v238
  let main_cst_16 : FVec F S_ .f32 := constant S_ .f32 0x00000000#32
  let main_v240 : FVec F S2048x2048 .f32 := fn_where (F := F) main_v239 main_v232 main_cst_16
  let main_cst_17 : FVec F S_ .f32 := constant S_ .f32 0xEFA18F08#32
  let main_v241 : FVec F S2048x2048 .f32 := broadcastInDim S2048x2048 ![] bcast_S_S2048x2048 main_cst_17
  let main_v242 : IVec S2048x2048 1 := cmpf .oge main_v240 main_v241
  main_v242

def fn_part9 {F : FTy → Type} [FloatOps F] (main_arg0 : FVec F S2048x2048 .f32) (main_arg7 : FVec F S2048x16 .f32) (main_v193 : FVec F S2048x128 .f32) (main_v200 : FVec F S2048x16x1 .f32) (main_v202 : FVec F S2048x16x128 .f32) (main_v203 : FVec F S2048x128 .f32) : IVec S2048x2048 1 :=
  let main_cst_10 : FVec F S_ .f32 := constant S_ .f32 0xFF800000#32
  let main_v204 : FVec F S2048 .f32 := (fun x v => Host.reduce FloatOps.maximumf x v reducesTo_S2048x128_S2048_d1 h_S_) main_v203 main_cst_10
  let main_v205 : FVec F S2048x1 .f32 := broadcastInDim S2048x1 ![0] bcast_S2048_S2048x1_0 main_v204
  let main_cst_11 : FVec F S_ .f32 := constant S_ .f32 0x38D1B717#32
  let main_v206 : FVec F S2048x1 .f32 := broadcastInDim S2048x1 ![] bcast_S_S2048x1 main_cst_11
  let main_v207 : FVec F S2048x1 .f32 := maximumf main_v205 main_v206
  let main_cst_12 : FVec F S_ .f32 := constant S_ .f32 0x43E00000#32
  let main_v208 : FVec F S2048x1 .f32 := broadcastInDim S2048x1 ![] bcast_S_S2048x1 main_cst_12
  let main_v209 : FVec F S2048x1 .f32 := Host.divf main_v207 main_v208
  let main_v210 : FVec F S2048x128 .f32 := broadcastInDim S2048x128 ![0, 1] bcast_S2048x1_S2048x128_0_1 main_v209
  let main_v211 : FVec F S2048x128 .f32 := Host.divf main_v193 main_v210
  let main_v212 : FVec F S2048x16 .f32 := (fun l r => Host.dotGeneral dot_S2048x2048_S2048x16_S2048x16_1_0_0_1_n_n none l r) main_arg0 main_arg7
  let main_v213 : FVec F S2048x16x1 .f32 := broadcastInDim S2048x16x1 ![0, 1] bcast_S2048x16_S2048x16x1_0_1 main_v212
  let main_v214 : FVec F S2048x16x1 .f32 := mulf main_v213 main_v200
  let main_cst_13 : FVec F S_ .f32 := constant S_ .f32 0x3CB504F3#32
  let main_v215 : FVec F S2048x16x1 .f32 := broadcastInDim S2048x16x1 ![] bcast_S_S2048x16x1 main_cst_13
  let main_v216 : FVec F S2048x16x1 .f32 := mulf main_v214 main_v215
  let main_v217 : FVec F S2048x16 .f32 := shapeCast S2048x16 main_v216 shapeCasts_S2048x16x1_S2048x16
  let main_v218 : FVec F S2048x16x1x128 .f32 := broadcastInDim S2048x16x1x128 ![0, 1, 3] bcast_S2048x16x128_S2048x16x1x128_0_1_3 main_v202
  let main_v219 : FVec F S1x1x2048x128 .f32 := broadcastInDim S1x1x2048x128 ![2, 3] bcast_S2048x128_S1x1x2048x128_2_3 main_v211
  let main_v220 : FVec F S2048x16x2048x128 .f32 := broadcastInDim S2048x16x2048x128 ![0, 1, 2, 3] bcast_S2048x16x1x128_S2048x16x2048x128_0_1_2_3 main_v218
  let main_v221 : FVec F S2048x16x2048x128 .f32 := broadcastInDim S2048x16x2048x128 ![0, 1, 2, 3] bcast_S1x1x2048x128_S2048x16x2048x128_0_1_2_3 main_v219
  let main_v222 : FVec F S2048x16x2048x128 .f32 := mulf main_v220 main_v221
  let main_cst_14 : FVec F S_ .f32 := constant S_ .f32 0x00000000#32
  fn_part10 (F := F) main_v209 main_v217 main_v222 main_cst_14

def fn_part8 {F : FTy → Type} [FloatOps F] (main_arg0 : FVec F S2048x2048 .f32) (main_arg7 : FVec F S2048x16 .f32) (main_v128 : FVec F S2048x16x128 .f32) (main_v183 : FVec F S2048x1x2x64 .f32) : IVec S2048x2048 1 :=
  let main_v184 : FVec F S2048x1x1x64 .f32 := (extractStridedSlice S2048x1x1x64 ![0, 0, 0, 0] · slices_S2048x1x2x64_S2048x1x1x64_0_0_0_0) main_v183
  let main_v185 : FVec F S2048x1x64 .f32 := shapeCast S2048x1x64 main_v184 shapeCasts_S2048x1x1x64_S2048x1x64
  let main_v186 : FVec F S2048x1x1x64 .f32 := (extractStridedSlice S2048x1x1x64 ![0, 0, 1, 0] · slices_S2048x1x2x64_S2048x1x1x64_0_0_1_0) main_v183
  let main_v187 : FVec F S2048x1x64 .f32 := shapeCast S2048x1x64 main_v186 shapeCasts_S2048x1x1x64_S2048x1x64
  let main_v188 : FVec F S2048x1x64 .f32 := addf main_v185 main_v187
  let main_v189 : FVec F S2048x1x64 .f32 := subf main_v185 main_v187
  let main_v190 : FVec F S2048x1x128 .f32 := (fun a b => concatenate S2048x1x128 2 [⟨S2048x1x64, a⟩, ⟨S2048x1x64, b⟩] concatenates_S2048x1x64_S2048x1x64_S2048x1x128_d2) main_v188 main_v189
  let main_v191 : FVec F S2048x128 .f32 := shapeCast S2048x128 main_v190 shapeCasts_S2048x1x128_S2048x128
  let main_cst_6 : FVec F S_ .f32 := constant S_ .f32 0x3DB504F3#32
  let main_v192 : FVec F S2048x128 .f32 := broadcastInDim S2048x128 ![] bcast_S_S2048x128 main_cst_6
  let main_v193 : FVec F S2048x128 .f32 := mulf main_v191 main_v192
  let main_v194 : FVec F S2048x16x128 .f32 := Host.absf main_v128
  let main_cst_7 : FVec F S_ .f32 := constant S_ .f32 0xFF800000#32
  let main_v195 : FVec F S2048x16 .f32 := (fun x v => Host.reduce FloatOps.maximumf x v reducesTo_S2048x16x128_S2048x16_d2 h_S_) main_v194 main_cst_7
  let main_v196 : FVec F S2048x16x1 .f32 := broadcastInDim S2048x16x1 ![0, 1] bcast_S2048x16_S2048x16x1_0_1 main_v195
  let main_cst_8 : FVec F S_ .f32 := constant S_ .f32 0x38D1B717#32
  let main_v197 : FVec F S2048x16x1 .f32 := broadcastInDim S2048x16x1 ![] bcast_S_S2048x16x1 main_cst_8
  let main_v198 : FVec F S2048x16x1 .f32 := maximumf main_v196 main_v197
  let main_cst_9 : FVec F S_ .f32 := constant S_ .f32 0x43E00000#32
  let main_v199 : FVec F S2048x16x1 .f32 := broadcastInDim S2048x16x1 ![] bcast_S_S2048x16x1 main_cst_9
  let main_v200 : FVec F S2048x16x1 .f32 := Host.divf main_v198 main_v199
  let main_v201 : FVec F S2048x16x128 .f32 := broadcastInDim S2048x16x128 ![0, 1, 2] bcast_S2048x16x1_S2048x16x128_0_1_2 main_v200
  let main_v202 : FVec F S2048x16x128 .f32 := Host.divf main_v128 main_v201
  let main_v203 : FVec F S2048x128 .f32 := Host.absf main_v193
  fn_part9 (F := F) main_arg0 main_arg7 main_v193 main_v200 main_v202 main_v203

def fn_part7 {F : FTy → Type} [FloatOps F] (main_arg0 : FVec F S2048x2048 .f32) (main_arg7 : FVec F S2048x16 .f32) (main_v128 : FVec F S2048x16x128 .f32) (main_v158 : FVec F S2048x8x8 .f32) (main_v159 : FVec F S2048x8x1x8 .f32) : IVec S2048x2048 1 :=
  let main_v160 : FVec F S2048x8x8 .f32 := shapeCast S2048x8x8 main_v159 shapeCasts_S2048x8x1x8_S2048x8x8
  let main_v161 : FVec F S2048x8x8 .f32 := addf main_v158 main_v160
  let main_v162 : FVec F S2048x8x8 .f32 := subf main_v158 main_v160
  let main_v163 : FVec F S2048x8x16 .f32 := (fun a b => concatenate S2048x8x16 2 [⟨S2048x8x8, a⟩, ⟨S2048x8x8, b⟩] concatenates_S2048x8x8_S2048x8x8_S2048x8x16_d2) main_v161 main_v162
  let main_v164 : FVec F S2048x128 .f32 := shapeCast S2048x128 main_v163 shapeCasts_S2048x8x16_S2048x128
  let main_v165 : FVec F S2048x4x2x16 .f32 := shapeCast S2048x4x2x16 main_v164 shapeCasts_S2048x128_S2048x4x2x16
  let main_v166 : FVec F S2048x4x1x16 .f32 := (extractStridedSlice S2048x4x1x16 ![0, 0, 0, 0] · slices_S2048x4x2x16_S2048x4x1x16_0_0_0_0) main_v165
  let main_v167 : FVec F S2048x4x16 .f32 := shapeCast S2048x4x16 main_v166 shapeCasts_S2048x4x1x16_S2048x4x16
  let main_v168 : FVec F S2048x4x1x16 .f32 := (extractStridedSlice S2048x4x1x16 ![0, 0, 1, 0] · slices_S2048x4x2x16_S2048x4x1x16_0_0_1_0) main_v165
  let main_v169 : FVec F S2048x4x16 .f32 := shapeCast S2048x4x16 main_v168 shapeCasts_S2048x4x1x16_S2048x4x16
  let main_v170 : FVec F S2048x4x16 .f32 := addf main_v167 main_v169
  let main_v171 : FVec F S2048x4x16 .f32 := subf main_v167 main_v169
  let main_v172 : FVec F S2048x4x32 .f32 := (fun a b => concatenate S2048x4x32 2 [⟨S2048x4x16, a⟩, ⟨S2048x4x16, b⟩] concatenates_S2048x4x16_S2048x4x16_S2048x4x32_d2) main_v170 main_v171
  let main_v173 : FVec F S2048x128 .f32 := shapeCast S2048x128 main_v172 shapeCasts_S2048x4x32_S2048x128
  let main_v174 : FVec F S2048x2x2x32 .f32 := shapeCast S2048x2x2x32 main_v173 shapeCasts_S2048x128_S2048x2x2x32
  let main_v175 : FVec F S2048x2x1x32 .f32 := (extractStridedSlice S2048x2x1x32 ![0, 0, 0, 0] · slices_S2048x2x2x32_S2048x2x1x32_0_0_0_0) main_v174
  let main_v176 : FVec F S2048x2x32 .f32 := shapeCast S2048x2x32 main_v175 shapeCasts_S2048x2x1x32_S2048x2x32
  let main_v177 : FVec F S2048x2x1x32 .f32 := (extractStridedSlice S2048x2x1x32 ![0, 0, 1, 0] · slices_S2048x2x2x32_S2048x2x1x32_0_0_1_0) main_v174
  let main_v178 : FVec F S2048x2x32 .f32 := shapeCast S2048x2x32 main_v177 shapeCasts_S2048x2x1x32_S2048x2x32
  let main_v179 : FVec F S2048x2x32 .f32 := addf main_v176 main_v178
  let main_v180 : FVec F S2048x2x32 .f32 := subf main_v176 main_v178
  let main_v181 : FVec F S2048x2x64 .f32 := (fun a b => concatenate S2048x2x64 2 [⟨S2048x2x32, a⟩, ⟨S2048x2x32, b⟩] concatenates_S2048x2x32_S2048x2x32_S2048x2x64_d2) main_v179 main_v180
  let main_v182 : FVec F S2048x128 .f32 := shapeCast S2048x128 main_v181 shapeCasts_S2048x2x64_S2048x128
  let main_v183 : FVec F S2048x1x2x64 .f32 := shapeCast S2048x1x2x64 main_v182 shapeCasts_S2048x128_S2048x1x2x64
  fn_part8 (F := F) main_arg0 main_arg7 main_v128 main_v183

def fn_part6 {F : FTy → Type} [FloatOps F] (main_arg0 : FVec F S2048x2048 .f32) (main_arg7 : FVec F S2048x16 .f32) (main_v128 : FVec F S2048x16x128 .f32) (main_v134 : FVec F S2048x64x1 .f32) (main_v135 : FVec F S2048x64x1 .f32) : IVec S2048x2048 1 :=
  let main_v136 : FVec F S2048x64x2 .f32 := (fun a b => concatenate S2048x64x2 2 [⟨S2048x64x1, a⟩, ⟨S2048x64x1, b⟩] concatenates_S2048x64x1_S2048x64x1_S2048x64x2_d2) main_v134 main_v135
  let main_v137 : FVec F S2048x128 .f32 := shapeCast S2048x128 main_v136 shapeCasts_S2048x64x2_S2048x128
  let main_v138 : FVec F S2048x32x2x2 .f32 := shapeCast S2048x32x2x2 main_v137 shapeCasts_S2048x128_S2048x32x2x2
  let main_v139 : FVec F S2048x32x1x2 .f32 := (extractStridedSlice S2048x32x1x2 ![0, 0, 0, 0] · slices_S2048x32x2x2_S2048x32x1x2_0_0_0_0) main_v138
  let main_v140 : FVec F S2048x32x2 .f32 := shapeCast S2048x32x2 main_v139 shapeCasts_S2048x32x1x2_S2048x32x2
  let main_v141 : FVec F S2048x32x1x2 .f32 := (extractStridedSlice S2048x32x1x2 ![0, 0, 1, 0] · slices_S2048x32x2x2_S2048x32x1x2_0_0_1_0) main_v138
  let main_v142 : FVec F S2048x32x2 .f32 := shapeCast S2048x32x2 main_v141 shapeCasts_S2048x32x1x2_S2048x32x2
  let main_v143 : FVec F S2048x32x2 .f32 := addf main_v140 main_v142
  let main_v144 : FVec F S2048x32x2 .f32 := subf main_v140 main_v142
  let main_v145 : FVec F S2048x32x4 .f32 := (fun a b => concatenate S2048x32x4 2 [⟨S2048x32x2, a⟩, ⟨S2048x32x2, b⟩] concatenates_S2048x32x2_S2048x32x2_S2048x32x4_d2) main_v143 main_v144
  let main_v146 : FVec F S2048x128 .f32 := shapeCast S2048x128 main_v145 shapeCasts_S2048x32x4_S2048x128
  let main_v147 : FVec F S2048x16x2x4 .f32 := shapeCast S2048x16x2x4 main_v146 shapeCasts_S2048x128_S2048x16x2x4
  let main_v148 : FVec F S2048x16x1x4 .f32 := (extractStridedSlice S2048x16x1x4 ![0, 0, 0, 0] · slices_S2048x16x2x4_S2048x16x1x4_0_0_0_0) main_v147
  let main_v149 : FVec F S2048x16x4 .f32 := shapeCast S2048x16x4 main_v148 shapeCasts_S2048x16x1x4_S2048x16x4
  let main_v150 : FVec F S2048x16x1x4 .f32 := (extractStridedSlice S2048x16x1x4 ![0, 0, 1, 0] · slices_S2048x16x2x4_S2048x16x1x4_0_0_1_0) main_v147
  let main_v151 : FVec F S2048x16x4 .f32 := shapeCast S2048x16x4 main_v150 shapeCasts_S2048x16x1x4_S2048x16x4
  let main_v152 : FVec F S2048x16x4 .f32 := addf main_v149 main_v151
  let main_v153 : FVec F S2048x16x4 .f32 := subf main_v149 main_v151
  let main_v154 : FVec F S2048x16x8 .f32 := (fun a b => concatenate S2048x16x8 2 [⟨S2048x16x4, a⟩, ⟨S2048x16x4, b⟩] concatenates_S2048x16x4_S2048x16x4_S2048x16x8_d2) main_v152 main_v153
  let main_v155 : FVec F S2048x128 .f32 := shapeCast S2048x128 main_v154 shapeCasts_S2048x16x8_S2048x128
  let main_v156 : FVec F S2048x8x2x8 .f32 := shapeCast S2048x8x2x8 main_v155 shapeCasts_S2048x128_S2048x8x2x8
  let main_v157 : FVec F S2048x8x1x8 .f32 := (extractStridedSlice S2048x8x1x8 ![0, 0, 0, 0] · slices_S2048x8x2x8_S2048x8x1x8_0_0_0_0) main_v156
  let main_v158 : FVec F S2048x8x8 .f32 := shapeCast S2048x8x8 main_v157 shapeCasts_S2048x8x1x8_S2048x8x8
  let main_v159 : FVec F S2048x8x1x8 .f32 := (extractStridedSlice S2048x8x1x8 ![0, 0, 1, 0] · slices_S2048x8x2x8_S2048x8x1x8_0_0_1_0) main_v156
  fn_part7 (F := F) main_arg0 main_arg7 main_v128 main_v158 main_v159

def fn_part5 {F : FTy → Type} [FloatOps F] (main_arg0 : FVec F S2048x2048 .f32) (main_arg7 : FVec F S2048x16 .f32) (main_v61 : FVec F S2048x128 .f32) (main_v110 : FVec F S32768x2x32 .f32) (main_v112 : FVec F S32768x2x32 .f32) : IVec S2048x2048 1 :=
  let main_v113 : FVec F S32768x2x32 .f32 := addf main_v110 main_v112
  let main_v114 : FVec F S32768x2x32 .f32 := subf main_v110 main_v112
  let main_v115 : FVec F S32768x2x64 .f32 := (fun a b => concatenate S32768x2x64 2 [⟨S32768x2x32, a⟩, ⟨S32768x2x32, b⟩] concatenates_S32768x2x32_S32768x2x32_S32768x2x64_d2) main_v113 main_v114
  let main_v116 : FVec F S32768x128 .f32 := shapeCast S32768x128 main_v115 shapeCasts_S32768x2x64_S32768x128
  let main_v117 : FVec F S32768x1x2x64 .f32 := shapeCast S32768x1x2x64 main_v116 shapeCasts_S32768x128_S32768x1x2x64
  let main_v118 : FVec F S32768x1x1x64 .f32 := (extractStridedSlice S32768x1x1x64 ![0, 0, 0, 0] · slices_S32768x1x2x64_S32768x1x1x64_0_0_0_0) main_v117
  let main_v119 : FVec F S32768x1x64 .f32 := shapeCast S32768x1x64 main_v118 shapeCasts_S32768x1x1x64_S32768x1x64
  let main_v120 : FVec F S32768x1x1x64 .f32 := (extractStridedSlice S32768x1x1x64 ![0, 0, 1, 0] · slices_S32768x1x2x64_S32768x1x1x64_0_0_1_0) main_v117
  let main_v121 : FVec F S32768x1x64 .f32 := shapeCast S32768x1x64 main_v120 shapeCasts_S32768x1x1x64_S32768x1x64
  let main_v122 : FVec F S32768x1x64 .f32 := addf main_v119 main_v121
  let main_v123 : FVec F S32768x1x64 .f32 := subf main_v119 main_v121
  let main_v124 : FVec F S32768x1x128 .f32 := (fun a b => concatenate S32768x1x128 2 [⟨S32768x1x64, a⟩, ⟨S32768x1x64, b⟩] concatenates_S32768x1x64_S32768x1x64_S32768x1x128_d2) main_v122 main_v123
  let main_v125 : FVec F S32768x128 .f32 := shapeCast S32768x128 main_v124 shapeCasts_S32768x1x128_S32768x128
  let main_v126 : FVec F S2048x16x128 .f32 := shapeCast S2048x16x128 main_v125 shapeCasts_S32768x128_S2048x16x128
  let main_cst_5 : FVec F S_ .f32 := constant S_ .f32 0x3DB504F3#32
  let main_v127 : FVec F S2048x16x128 .f32 := broadcastInDim S2048x16x128 ![] bcast_S_S2048x16x128 main_cst_5
  let main_v128 : FVec F S2048x16x128 .f32 := mulf main_v126 main_v127
  let main_v129 : FVec F S2048x64x2x1 .f32 := shapeCast S2048x64x2x1 main_v61 shapeCasts_S2048x128_S2048x64x2x1
  let main_v130 : FVec F S2048x64x1x1 .f32 := (extractStridedSlice S2048x64x1x1 ![0, 0, 0, 0] · slices_S2048x64x2x1_S2048x64x1x1_0_0_0_0) main_v129
  let main_v131 : FVec F S2048x64x1 .f32 := shapeCast S2048x64x1 main_v130 shapeCasts_S2048x64x1x1_S2048x64x1
  let main_v132 : FVec F S2048x64x1x1 .f32 := (extractStridedSlice S2048x64x1x1 ![0, 0, 1, 0] · slices_S2048x64x2x1_S2048x64x1x1_0_0_1_0) main_v129
  let main_v133 : FVec F S2048x64x1 .f32 := shapeCast S2048x64x1 main_v132 shapeCasts_S2048x64x1x1_S2048x64x1
  let main_v134 : FVec F S2048x64x1 .f32 := addf main_v131 main_v133
  let main_v135 : FVec F S2048x64x1 .f32 := subf main_v131 main_v133
  fn_part6 (F := F) main_arg0 main_arg7 main_v128 main_v134 main_v135

def fn_part4 {F : FTy → Type} [FloatOps F] (main_arg0 : FVec F S2048x2048 .f32) (main_arg7 : FVec F S2048x16 .f32) (main_v61 : FVec F S2048x128 .f32) (main_v88 : FVec F S32768x16x8 .f32) : IVec S2048x2048 1 :=
  let main_v89 : FVec F S32768x128 .f32 := shapeCast S32768x128 main_v88 shapeCasts_S32768x16x8_S32768x128
  let main_v90 : FVec F S32768x8x2x8 .f32 := shapeCast S32768x8x2x8 main_v89 shapeCasts_S32768x128_S32768x8x2x8
  let main_v91 : FVec F S32768x8x1x8 .f32 := (extractStridedSlice S32768x8x1x8 ![0, 0, 0, 0] · slices_S32768x8x2x8_S32768x8x1x8_0_0_0_0) main_v90
  let main_v92 : FVec F S32768x8x8 .f32 := shapeCast S32768x8x8 main_v91 shapeCasts_S32768x8x1x8_S32768x8x8
  let main_v93 : FVec F S32768x8x1x8 .f32 := (extractStridedSlice S32768x8x1x8 ![0, 0, 1, 0] · slices_S32768x8x2x8_S32768x8x1x8_0_0_1_0) main_v90
  let main_v94 : FVec F S32768x8x8 .f32 := shapeCast S32768x8x8 main_v93 shapeCasts_S32768x8x1x8_S32768x8x8
  let main_v95 : FVec F S32768x8x8 .f32 := addf main_v92 main_v94
  let main_v96 : FVec F S32768x8x8 .f32 := subf main_v92 main_v94
  let main_v97 : FVec F S32768x8x16 .f32 := (fun a b => concatenate S32768x8x16 2 [⟨S32768x8x8, a⟩, ⟨S32768x8x8, b⟩] concatenates_S32768x8x8_S32768x8x8_S32768x8x16_d2) main_v95 main_v96
  let main_v98 : FVec F S32768x128 .f32 := shapeCast S32768x128 main_v97 shapeCasts_S32768x8x16_S32768x128
  let main_v99 : FVec F S32768x4x2x16 .f32 := shapeCast S32768x4x2x16 main_v98 shapeCasts_S32768x128_S32768x4x2x16
  let main_v100 : FVec F S32768x4x1x16 .f32 := (extractStridedSlice S32768x4x1x16 ![0, 0, 0, 0] · slices_S32768x4x2x16_S32768x4x1x16_0_0_0_0) main_v99
  let main_v101 : FVec F S32768x4x16 .f32 := shapeCast S32768x4x16 main_v100 shapeCasts_S32768x4x1x16_S32768x4x16
  let main_v102 : FVec F S32768x4x1x16 .f32 := (extractStridedSlice S32768x4x1x16 ![0, 0, 1, 0] · slices_S32768x4x2x16_S32768x4x1x16_0_0_1_0) main_v99
  let main_v103 : FVec F S32768x4x16 .f32 := shapeCast S32768x4x16 main_v102 shapeCasts_S32768x4x1x16_S32768x4x16
  let main_v104 : FVec F S32768x4x16 .f32 := addf main_v101 main_v103
  let main_v105 : FVec F S32768x4x16 .f32 := subf main_v101 main_v103
  let main_v106 : FVec F S32768x4x32 .f32 := (fun a b => concatenate S32768x4x32 2 [⟨S32768x4x16, a⟩, ⟨S32768x4x16, b⟩] concatenates_S32768x4x16_S32768x4x16_S32768x4x32_d2) main_v104 main_v105
  let main_v107 : FVec F S32768x128 .f32 := shapeCast S32768x128 main_v106 shapeCasts_S32768x4x32_S32768x128
  let main_v108 : FVec F S32768x2x2x32 .f32 := shapeCast S32768x2x2x32 main_v107 shapeCasts_S32768x128_S32768x2x2x32
  let main_v109 : FVec F S32768x2x1x32 .f32 := (extractStridedSlice S32768x2x1x32 ![0, 0, 0, 0] · slices_S32768x2x2x32_S32768x2x1x32_0_0_0_0) main_v108
  let main_v110 : FVec F S32768x2x32 .f32 := shapeCast S32768x2x32 main_v109 shapeCasts_S32768x2x1x32_S32768x2x32
  let main_v111 : FVec F S32768x2x1x32 .f32 := (extractStridedSlice S32768x2x1x32 ![0, 0, 1, 0] · slices_S32768x2x2x32_S32768x2x1x32_0_0_1_0) main_v108
  let main_v112 : FVec F S32768x2x32 .f32 := shapeCast S32768x2x32 main_v111 shapeCasts_S32768x2x1x32_S32768x2x32
  fn_part5 (F := F) main_arg0 main_arg7 main_v61 main_v110 main_v112

def fn_part3 {F : FTy → Type} [FloatOps F] (main_arg0 : FVec F S2048x2048 .f32) (main_arg7 : FVec F S2048x16 .f32) (main_v61 : FVec F S2048x128 .f32) (main_v63 : FVec F S32768x64x2x1 .f32) (main_v64 : FVec F S32768x64x1x1 .f32) : IVec S2048x2048 1 :=
  let main_v65 : FVec F S32768x64x1 .f32 := shapeCast S32768x64x1 main_v64 shapeCasts_S32768x64x1x1_S32768x64x1
  let main_v66 : FVec F S32768x64x1x1 .f32 := (extractStridedSlice S32768x64x1x1 ![0, 0, 1, 0] · slices_S32768x64x2x1_S32768x64x1x1_0_0_1_0) main_v63
  let main_v67 : FVec F S32768x64x1 .f32 := shapeCast S32768x64x1 main_v66 shapeCasts_S32768x64x1x1_S32768x64x1
  let main_v68 : FVec F S32768x64x1 .f32 := addf main_v65 main_v67
  let main_v69 : FVec F S32768x64x1 .f32 := subf main_v65 main_v67
  let main_v70 : FVec F S32768x64x2 .f32 := (fun a b => concatenate S32768x64x2 2 [⟨S32768x64x1, a⟩, ⟨S32768x64x1, b⟩] concatenates_S32768x64x1_S32768x64x1_S32768x64x2_d2) main_v68 main_v69
  let main_v71 : FVec F S32768x128 .f32 := shapeCast S32768x128 main_v70 shapeCasts_S32768x64x2_S32768x128
  let main_v72 : FVec F S32768x32x2x2 .f32 := shapeCast S32768x32x2x2 main_v71 shapeCasts_S32768x128_S32768x32x2x2
  let main_v73 : FVec F S32768x32x1x2 .f32 := (extractStridedSlice S32768x32x1x2 ![0, 0, 0, 0] · slices_S32768x32x2x2_S32768x32x1x2_0_0_0_0) main_v72
  let main_v74 : FVec F S32768x32x2 .f32 := shapeCast S32768x32x2 main_v73 shapeCasts_S32768x32x1x2_S32768x32x2
  let main_v75 : FVec F S32768x32x1x2 .f32 := (extractStridedSlice S32768x32x1x2 ![0, 0, 1, 0] · slices_S32768x32x2x2_S32768x32x1x2_0_0_1_0) main_v72
  let main_v76 : FVec F S32768x32x2 .f32 := shapeCast S32768x32x2 main_v75 shapeCasts_S32768x32x1x2_S32768x32x2
  let main_v77 : FVec F S32768x32x2 .f32 := addf main_v74 main_v76
  let main_v78 : FVec F S32768x32x2 .f32 := subf main_v74 main_v76
  let main_v79 : FVec F S32768x32x4 .f32 := (fun a b => concatenate S32768x32x4 2 [⟨S32768x32x2, a⟩, ⟨S32768x32x2, b⟩] concatenates_S32768x32x2_S32768x32x2_S32768x32x4_d2) main_v77 main_v78
  let main_v80 : FVec F S32768x128 .f32 := shapeCast S32768x128 main_v79 shapeCasts_S32768x32x4_S32768x128
  let main_v81 : FVec F S32768x16x2x4 .f32 := shapeCast S32768x16x2x4 main_v80 shapeCasts_S32768x128_S32768x16x2x4
  let main_v82 : FVec F S32768x16x1x4 .f32 := (extractStridedSlice S32768x16x1x4 ![0, 0, 0, 0] · slices_S32768x16x2x4_S32768x16x1x4_0_0_0_0) main_v81
  let main_v83 : FVec F S32768x16x4 .f32 := shapeCast S32768x16x4 main_v82 shapeCasts_S32768x16x1x4_S32768x16x4
  let main_v84 : FVec F S32768x16x1x4 .f32 := (extractStridedSlice S32768x16x1x4 ![0, 0, 1, 0] · slices_S32768x16x2x4_S32768x16x1x4_0_0_1_0) main_v81
  let main_v85 : FVec F S32768x16x4 .f32 := shapeCast S32768x16x4 main_v84 shapeCasts_S32768x16x1x4_S32768x16x4
  let main_v86 : FVec F S32768x16x4 .f32 := addf main_v83 main_v85
  let main_v87 : FVec F S32768x16x4 .f32 := subf main_v83 main_v85
  let main_v88 : FVec F S32768x16x8 .f32 := (fun a b => concatenate S32768x16x8 2 [⟨S32768x16x4, a⟩, ⟨S32768x16x4, b⟩] concatenates_S32768x16x4_S32768x16x4_S32768x16x8_d2) main_v86 main_v87
  fn_part4 (F := F) main_arg0 main_arg7 main_v61 main_v88

def fn_part2 {F : FTy → Type} [FloatOps F] (main_arg0 : FVec F S2048x2048 .f32) (main_arg7 : FVec F S2048x16 .f32) (main_v1 : FVec F S2048x16x128 .f32) (main_v26 : FVec F S2048x128 .f32) (main_v34 : FVec F S2048x32 .f32) (main_v35 : FVec F S2048x32 .f32) (main_v36 : FVec F S2048x1x32 .f32) (main_v37 : FVec F S2048x1x32 .f32) (main_v38 : FVec F S2048x16x32 .f32) (main_v39 : FVec F S2048x16x32 .f32) (main_v40 : FVec F S2048x16x32 .f32) : IVec S2048x2048 1 :=
  let main_v41 : FVec F S2048x16x32 .f32 := mulf main_v38 main_v40
  let main_v42 : FVec F S2048x16x32 .f32 := broadcastInDim S2048x16x32 ![0, 1, 2] bcast_S2048x1x32_S2048x16x32_0_1_2 main_v37
  let main_v43 : FVec F S2048x16x32 .f32 := mulf main_v39 main_v42
  let main_v44 : FVec F S2048x16x32 .f32 := subf main_v41 main_v43
  let main_v45 : FVec F S2048x16x32 .f32 := broadcastInDim S2048x16x32 ![0, 1, 2] bcast_S2048x1x32_S2048x16x32_0_1_2 main_v36
  let main_v46 : FVec F S2048x16x32 .f32 := mulf main_v39 main_v45
  let main_v47 : FVec F S2048x16x32 .f32 := broadcastInDim S2048x16x32 ![0, 1, 2] bcast_S2048x1x32_S2048x16x32_0_1_2 main_v37
  let main_v48 : FVec F S2048x16x32 .f32 := mulf main_v38 main_v47
  let main_v49 : FVec F S2048x16x32 .f32 := addf main_v46 main_v48
  let main_v50 : FVec F S2048x16x64 .f32 := (extractStridedSlice S2048x16x64 ![0, 0, 64] · slices_S2048x16x128_S2048x16x64_0_0_64) main_v1
  let main_v51 : FVec F S2048x16x128 .f32 := concatenate S2048x16x128 2 [⟨S2048x16x32, main_v44⟩, ⟨S2048x16x32, main_v49⟩, ⟨S2048x16x64, main_v50⟩] concatenates_S2048x16x32_S2048x16x32_S2048x16x64_S2048x16x128_d2
  let main_v52 : FVec F S2048x32 .f32 := (extractStridedSlice S2048x32 ![0, 0] · slices_S2048x128_S2048x32_0_0) main_v26
  let main_v53 : FVec F S2048x32 .f32 := (extractStridedSlice S2048x32 ![0, 32] · slices_S2048x128_S2048x32_0_32) main_v26
  let main_v54 : FVec F S2048x32 .f32 := mulf main_v52 main_v34
  let main_v55 : FVec F S2048x32 .f32 := mulf main_v53 main_v35
  let main_v56 : FVec F S2048x32 .f32 := subf main_v54 main_v55
  let main_v57 : FVec F S2048x32 .f32 := mulf main_v53 main_v34
  let main_v58 : FVec F S2048x32 .f32 := mulf main_v52 main_v35
  let main_v59 : FVec F S2048x32 .f32 := addf main_v57 main_v58
  let main_v60 : FVec F S2048x64 .f32 := (extractStridedSlice S2048x64 ![0, 64] · slices_S2048x128_S2048x64_0_64) main_v26
  let main_v61 : FVec F S2048x128 .f32 := concatenate S2048x128 1 [⟨S2048x32, main_v56⟩, ⟨S2048x32, main_v59⟩, ⟨S2048x64, main_v60⟩] concatenates_S2048x32_S2048x32_S2048x64_S2048x128_d1
  let main_v62 : FVec F S32768x128 .f32 := shapeCast S32768x128 main_v51 shapeCasts_S2048x16x128_S32768x128
  let main_v63 : FVec F S32768x64x2x1 .f32 := shapeCast S32768x64x2x1 main_v62 shapeCasts_S32768x128_S32768x64x2x1
  let main_v64 : FVec F S32768x64x1x1 .f32 := (extractStridedSlice S32768x64x1x1 ![0, 0, 0, 0] · slices_S32768x64x2x1_S32768x64x1x1_0_0_0_0) main_v63
  fn_part3 (F := F) main_arg0 main_arg7 main_v61 main_v63 main_v64

def fn_part1 {F : FTy → Type} [FloatOps F] (main_arg0 : FVec F S2048x2048 .f32) (main_arg2 : IVec S2048 32) (main_arg5 : FVec F S128 .f32) (main_arg6 : FVec F S128 .f32) (main_arg7 : FVec F S2048x16 .f32) (main_arg8 : FVec F S8192x64 .f32) (main_v1 : FVec F S2048x16x128 .f32) (main_v15 : FVec F S2048x128 .f32) (main_v18 : FVec F S2048x1 .f32) : IVec S2048x2048 1 :=
  let main_v19 : FVec F S2048x128 .f32 := broadcastInDim S2048x128 ![0, 1] bcast_S2048x1_S2048x128_0_1 main_v18
  let main_v20 : FVec F S2048x128 .f32 := Host.divf main_v15 main_v19
  let main_v21 : FVec F S1x128 .f32 := broadcastInDim S1x128 ![1] bcast_S128_S1x128_1 main_arg5
  let main_v22 : FVec F S2048x128 .f32 := broadcastInDim S2048x128 ![0, 1] bcast_S1x128_S2048x128_0_1 main_v21
  let main_v23 : FVec F S2048x128 .f32 := mulf main_v20 main_v22
  let main_v24 : FVec F S1x128 .f32 := broadcastInDim S1x128 ![1] bcast_S128_S1x128_1 main_arg6
  let main_v25 : FVec F S2048x128 .f32 := broadcastInDim S2048x128 ![0, 1] bcast_S1x128_S2048x128_0_1 main_v24
  let main_v26 : FVec F S2048x128 .f32 := addf main_v23 main_v25
  let main_c : IVec S_ 32 := constantI S_ 32 0#32
  let main_v27 : IVec S2048 32 := broadcastInDim S2048 ![] bcast_S_S2048 main_c
  let main_v28 : IVec S2048 1 := cmpi .slt main_arg2 main_v27
  let main_c_4 : IVec S_ 32 := constantI S_ 32 8192#32
  let main_v29 : IVec S2048 32 := broadcastInDim S2048 ![] bcast_S_S2048 main_c_4
  let main_v30 : IVec S2048 32 := addi main_arg2 main_v29
  let main_v31 : IVec S2048 32 := select main_v28 main_v30 main_arg2
  let main_v32 : IVec S2048x1 32 := broadcastInDim S2048x1 ![0] bcast_S2048_S2048x1_0 main_v31
  let main_v33 : FVec F S2048x64 .f32 := (fun x i => Host.gather gather_S8192x64_S2048x1_S2048x64_1_0_n_n_0_1_164 x i) main_arg8 main_v32
  let main_v34 : FVec F S2048x32 .f32 := (extractStridedSlice S2048x32 ![0, 0] · slices_S2048x64_S2048x32_0_0) main_v33
  let main_v35 : FVec F S2048x32 .f32 := (extractStridedSlice S2048x32 ![0, 32] · slices_S2048x64_S2048x32_0_32) main_v33
  let main_v36 : FVec F S2048x1x32 .f32 := broadcastInDim S2048x1x32 ![0, 2] bcast_S2048x32_S2048x1x32_0_2 main_v34
  let main_v37 : FVec F S2048x1x32 .f32 := broadcastInDim S2048x1x32 ![0, 2] bcast_S2048x32_S2048x1x32_0_2 main_v35
  let main_v38 : FVec F S2048x16x32 .f32 := (extractStridedSlice S2048x16x32 ![0, 0, 0] · slices_S2048x16x128_S2048x16x32_0_0_0) main_v1
  let main_v39 : FVec F S2048x16x32 .f32 := (extractStridedSlice S2048x16x32 ![0, 0, 32] · slices_S2048x16x128_S2048x16x32_0_0_32) main_v1
  let main_v40 : FVec F S2048x16x32 .f32 := broadcastInDim S2048x16x32 ![0, 1, 2] bcast_S2048x1x32_S2048x16x32_0_1_2 main_v36
  fn_part2 (F := F) main_arg0 main_arg7 main_v1 main_v26 main_v34 main_v35 main_v36 main_v37 main_v38 main_v39 main_v40

def fn {F : FTy → Type} [FloatOps F] (main_arg0 : FVec F S2048x2048 .f32) (main_arg1 : FVec F S2048x1536 .f32) (main_arg2 : IVec S2048 32) (main_arg3 : FVec F S1536x2048 .f32) (main_arg4 : FVec F S2048x128 .f32) (main_arg5 : FVec F S128 .f32) (main_arg6 : FVec F S128 .f32) (main_arg7 : FVec F S2048x16 .f32) (main_arg8 : FVec F S8192x64 .f32) : IVec S2048x2048 1 :=
  let main_v0 : FVec F S2048x2048 .f32 := (fun l r => Host.dotGeneral dot_S2048x1536_S1536x2048_S2048x2048_1_0_0_1_n_n none l r) main_arg1 main_arg3
  let main_v1 : FVec F S2048x16x128 .f32 := shapeCast S2048x16x128 main_v0 shapeCasts_S2048x2048_S2048x16x128
  let main_v2 : FVec F S2048x128 .f32 := (fun l r => Host.dotGeneral dot_S2048x2048_S2048x128_S2048x128_1_0_0_1_n_n none l r) main_arg0 main_arg4
  let main_cst : FVec F S_ .f32 := constant S_ .f32 0x00000000#32
  let main_v3 : FVec F S2048 .f32 := (fun x v => Host.reduceAdd x v reducesTo_S2048x128_S2048_d1 h_S_) main_v2 main_cst
  let main_v4 : FVec F S2048x1 .f32 := broadcastInDim S2048x1 ![0] bcast_S2048_S2048x1_0 main_v3
  let main_cst_0 : FVec F S_ .f32 := constant S_ .f32 0x43000000#32
  let main_v5 : FVec F S2048x1 .f32 := broadcastInDim S2048x1 ![] bcast_S_S2048x1 main_cst_0
  let main_v6 : FVec F S2048x1 .f32 := Host.divf main_v4 main_v5
  let main_v7 : FVec F S2048x128 .f32 := broadcastInDim S2048x128 ![0, 1] bcast_S2048x1_S2048x128_0_1 main_v6
  let main_v8 : FVec F S2048x128 .f32 := subf main_v2 main_v7
  let main_v9 : FVec F S2048x128 .f32 := mulf main_v8 main_v8
  let main_cst_1 : FVec F S_ .f32 := constant S_ .f32 0x00000000#32
  let main_v10 : FVec F S2048 .f32 := (fun x v => Host.reduceAdd x v reducesTo_S2048x128_S2048_d1 h_S_) main_v9 main_cst_1
  let main_v11 : FVec F S2048x1 .f32 := broadcastInDim S2048x1 ![0] bcast_S2048_S2048x1_0 main_v10
  let main_cst_2 : FVec F S_ .f32 := constant S_ .f32 0x43000000#32
  let main_v12 : FVec F S2048x1 .f32 := broadcastInDim S2048x1 ![] bcast_S_S2048x1 main_cst_2
  let main_v13 : FVec F S2048x1 .f32 := Host.divf main_v11 main_v12
  let main_v14 : FVec F S2048x128 .f32 := broadcastInDim S2048x128 ![0, 1] bcast_S2048x1_S2048x128_0_1 main_v6
  let main_v15 : FVec F S2048x128 .f32 := subf main_v2 main_v14
  let main_cst_3 : FVec F S_ .f32 := constant S_ .f32 0x358637BD#32
  let main_v16 : FVec F S2048x1 .f32 := broadcastInDim S2048x1 ![] bcast_S_S2048x1 main_cst_3
  let main_v17 : FVec F S2048x1 .f32 := addf main_v13 main_v16
  let main_v18 : FVec F S2048x1 .f32 := Host.sqrt main_v17
  fn_part1 (F := F) main_arg0 main_arg2 main_arg5 main_arg6 main_arg7 main_arg8 main_v1 main_v15 main_v18
-- ==== Kernel.lean ====
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S8192x64 : Shape := ⟨2, ![8192, 64]⟩
abbrev S_ : Shape := ⟨0, ![]⟩
abbrev S2048x1 : Shape := ⟨2, ![2048, 1]⟩
abbrev S2048x64 : Shape := ⟨2, ![2048, 64]⟩
abbrev S2048x32 : Shape := ⟨2, ![2048, 32]⟩
abbrev S2048x16x128 : Shape := ⟨3, ![2048, 16, 128]⟩
abbrev S2048x16x32 : Shape := ⟨3, ![2048, 16, 32]⟩
abbrev S2048x1x32 : Shape := ⟨3, ![2048, 1, 32]⟩
abbrev S2048x16x64 : Shape := ⟨3, ![2048, 16, 64]⟩
abbrev S32768x128 : Shape := ⟨2, ![32768, 128]⟩
abbrev S32768x64x2x1 : Shape := ⟨4, ![32768, 64, 2, 1]⟩
abbrev S32768x64x1x1 : Shape := ⟨4, ![32768, 64, 1, 1]⟩
abbrev S32768x64x1 : Shape := ⟨3, ![32768, 64, 1]⟩
abbrev S32768x64x2 : Shape := ⟨3, ![32768, 64, 2]⟩
abbrev S32768x32x2x2 : Shape := ⟨4, ![32768, 32, 2, 2]⟩
abbrev S32768x32x1x2 : Shape := ⟨4, ![32768, 32, 1, 2]⟩
abbrev S32768x32x2 : Shape := ⟨3, ![32768, 32, 2]⟩
abbrev S32768x32x4 : Shape := ⟨3, ![32768, 32, 4]⟩
abbrev S32768x16x2x4 : Shape := ⟨4, ![32768, 16, 2, 4]⟩
abbrev S32768x16x1x4 : Shape := ⟨4, ![32768, 16, 1, 4]⟩
abbrev S32768x16x4 : Shape := ⟨3, ![32768, 16, 4]⟩
abbrev S32768x16x8 : Shape := ⟨3, ![32768, 16, 8]⟩
abbrev S32768x8x2x8 : Shape := ⟨4, ![32768, 8, 2, 8]⟩
abbrev S32768x8x1x8 : Shape := ⟨4, ![32768, 8, 1, 8]⟩
abbrev S32768x8x8 : Shape := ⟨3, ![32768, 8, 8]⟩
abbrev S32768x8x16 : Shape := ⟨3, ![32768, 8, 16]⟩
abbrev S32768x4x2x16 : Shape := ⟨4, ![32768, 4, 2, 16]⟩
abbrev S32768x4x1x16 : Shape := ⟨4, ![32768, 4, 1, 16]⟩
abbrev S32768x4x16 : Shape := ⟨3, ![32768, 4, 16]⟩
abbrev S32768x4x32 : Shape := ⟨3, ![32768, 4, 32]⟩
abbrev S32768x2x2x32 : Shape := ⟨4, ![32768, 2, 2, 32]⟩
abbrev S32768x2x1x32 : Shape := ⟨4, ![32768, 2, 1, 32]⟩
abbrev S32768x2x32 : Shape := ⟨3, ![32768, 2, 32]⟩
abbrev S32768x2x64 : Shape := ⟨3, ![32768, 2, 64]⟩
abbrev S32768x1x2x64 : Shape := ⟨4, ![32768, 1, 2, 64]⟩
abbrev S32768x1x1x64 : Shape := ⟨4, ![32768, 1, 1, 64]⟩
abbrev S32768x1x64 : Shape := ⟨3, ![32768, 1, 64]⟩
abbrev S32768x1x128 : Shape := ⟨3, ![32768, 1, 128]⟩
abbrev S2048x16x1 : Shape := ⟨3, ![2048, 16, 1]⟩
abbrev S1x128 : Shape := ⟨2, ![1, 128]⟩
abbrev S1x2048 : Shape := ⟨2, ![1, 2048]⟩
abbrev S256x128 : Shape := ⟨2, ![256, 128]⟩
abbrev S256x64 : Shape := ⟨2, ![256, 64]⟩
abbrev S256x1 : Shape := ⟨2, ![256, 1]⟩
abbrev S256x32 : Shape := ⟨2, ![256, 32]⟩
abbrev S256x96 : Shape := ⟨2, ![256, 96]⟩
abbrev S256x127 : Shape := ⟨2, ![256, 127]⟩
abbrev S256x2 : Shape := ⟨2, ![256, 2]⟩
abbrev S256x126 : Shape := ⟨2, ![256, 126]⟩
abbrev S256x4 : Shape := ⟨2, ![256, 4]⟩
abbrev S256x124 : Shape := ⟨2, ![256, 124]⟩
abbrev S256x8 : Shape := ⟨2, ![256, 8]⟩
abbrev S256x120 : Shape := ⟨2, ![256, 120]⟩
abbrev S256x16 : Shape := ⟨2, ![256, 16]⟩
abbrev S256x112 : Shape := ⟨2, ![256, 112]⟩
abbrev S256 : Shape := ⟨1, ![256]⟩
abbrev S256x2048 : Shape := ⟨2, ![256, 2048]⟩
abbrev S2048x512 : Shape := ⟨2, ![2048, 512]⟩

abbrev nBuf : Space → Nat
  | .hbm => 171
  | .vmem => 16
  | .smem => 0
  | _ => 0

abbrev hbmTy0_0 (i : Nat) : BufTy := match i % 128 with
  | 0 => ⟨S2048x2048, .f32⟩
  | 1 => ⟨S2048x1536, .f32⟩
  | 2 => ⟨S2048, .i32⟩
  | 3 => ⟨S1536x2048, .f32⟩
  | 4 => ⟨S2048x128, .f32⟩
  | 5 => ⟨S128, .f32⟩
  | 6 => ⟨S128, .f32⟩
  | 7 => ⟨S2048x16, .f32⟩
  | 8 => ⟨S8192x64, .f32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S2048x64, .f32⟩
  | 18 => ⟨S2048x32, .f32⟩
  | 19 => ⟨S2048x32, .f32⟩
  | 20 => ⟨S2048x2048, .f32⟩
  | 21 => ⟨S2048x16x128, .f32⟩
  | 22 => ⟨S2048x16x32, .f32⟩
  | 23 => ⟨S2048x16x32, .f32⟩
  | 24 => ⟨S2048x1x32, .f32⟩
  | 25 => ⟨S2048x16x32, .f32⟩
  | 26 => ⟨S2048x16x32, .f32⟩
  | 27 => ⟨S2048x1x32, .f32⟩
  | 28 => ⟨S2048x16x32, .f32⟩
  | 29 => ⟨S2048x16x32, .f32⟩
  | 30 => ⟨S2048x16x32, .f32⟩
  | 31 => ⟨S2048x1x32, .f32⟩
  | 32 => ⟨S2048x16x32, .f32⟩
  | 33 => ⟨S2048x16x32, .f32⟩
  | 34 => ⟨S2048x1x32, .f32⟩
  | 35 => ⟨S2048x16x32, .f32⟩
  | 36 => ⟨S2048x16x32, .f32⟩
  | 37 => ⟨S2048x16x32, .f32⟩
  | 38 => ⟨S2048x16x64, .f32⟩
  | 39 => ⟨S2048x16x128, .f32⟩
  | 40 => ⟨S32768x128, .f32⟩
  | 41 => ⟨S32768x64x2x1, .f32⟩
  | 42 => ⟨S32768x64x1x1, .f32⟩
  | 43 => ⟨S32768x64x1, .f32⟩
  | 44 => ⟨S32768x64x1x1, .f32⟩
  | 45 => ⟨S32768x64x1, .f32⟩
  | 46 => ⟨S32768x64x1, .f32⟩
  | 47 => ⟨S32768x64x1, .f32⟩
  | 48 => ⟨S32768x64x2, .f32⟩
  | 49 => ⟨S32768x128, .f32⟩
  | 50 => ⟨S32768x32x2x2, .f32⟩
  | 51 => ⟨S32768x32x1x2, .f32⟩
  | 52 => ⟨S32768x32x2, .f32⟩
  | 53 => ⟨S32768x32x1x2, .f32⟩
  | 54 => ⟨S32768x32x2, .f32⟩
  | 55 => ⟨S32768x32x2, .f32⟩
  | 56 => ⟨S32768x32x2, .f32⟩
  | 57 => ⟨S32768x32x4, .f32⟩
  | 58 => ⟨S32768x128, .f32⟩
  | 59 => ⟨S32768x16x2x4, .f32⟩
  | 60 => ⟨S32768x16x1x4, .f32⟩
  | 61 => ⟨S32768x16x4, .f32⟩
  | 62 => ⟨S32768x16x1x4, .f32⟩
  | 63 => ⟨S32768x16x4, .f32⟩
  | 64 => ⟨S32768x16x4, .f32⟩
  | 65 => ⟨S32768x16x4, .f32⟩
  | 66 => ⟨S32768x16x8, .f32⟩
  | 67 => ⟨S32768x128, .f32⟩
  | 68 => ⟨S32768x8x2x8, .f32⟩
  | 69 => ⟨S32768x8x1x8, .f32⟩
  | 70 => ⟨S32768x8x8, .f32⟩
  | 71 => ⟨S32768x8x1x8, .f32⟩
  | 72 => ⟨S32768x8x8, .f32⟩
  | 73 => ⟨S32768x8x8, .f32⟩
  | 74 => ⟨S32768x8x8, .f32⟩
  | 75 => ⟨S32768x8x16, .f32⟩
  | 76 => ⟨S32768x128, .f32⟩
  | 77 => ⟨S32768x4x2x16, .f32⟩
  | 78 => ⟨S32768x4x1x16, .f32⟩
  | 79 => ⟨S32768x4x16, .f32⟩
  | 80 => ⟨S32768x4x1x16, .f32⟩
  | 81 => ⟨S32768x4x16, .f32⟩
  | 82 => ⟨S32768x4x16, .f32⟩
  | 83 => ⟨S32768x4x16, .f32⟩
  | 84 => ⟨S32768x4x32, .f32⟩
  | 85 => ⟨S32768x128, .f32⟩
  | 86 => ⟨S32768x2x2x32, .f32⟩
  | 87 => ⟨S32768x2x1x32, .f32⟩
  | 88 => ⟨S32768x2x32, .f32⟩
  | 89 => ⟨S32768x2x1x32, .f32⟩
  | 90 => ⟨S32768x2x32, .f32⟩
  | 91 => ⟨S32768x2x32, .f32⟩
  | 92 => ⟨S32768x2x32, .f32⟩
  | 93 => ⟨S32768x2x64, .f32⟩
  | 94 => ⟨S32768x128, .f32⟩
  | 95 => ⟨S32768x1x2x64, .f32⟩
  | 96 => ⟨S32768x1x1x64, .f32⟩
  | 97 => ⟨S32768x1x64, .f32⟩
  | 98 => ⟨S32768x1x1x64, .f32⟩
  | 99 => ⟨S32768x1x64, .f32⟩
  | 100 => ⟨S32768x1x64, .f32⟩
  | 101 => ⟨S32768x1x64, .f32⟩
  | 102 => ⟨S32768x1x128, .f32⟩
  | 103 => ⟨S32768x128, .f32⟩
  | 104 => ⟨S2048x16x128, .f32⟩
  | 105 => ⟨S_, .f32⟩
  | 106 => ⟨S2048x16x128, .f32⟩
  | 107 => ⟨S2048x16x128, .f32⟩
  | 108 => ⟨S2048x16x128, .f32⟩
  | 109 => ⟨S_, .f32⟩
  | 110 => ⟨S2048x16, .f32⟩
  | 111 => ⟨S2048x16x1, .f32⟩
  | 112 => ⟨S_, .f32⟩
  | 113 => ⟨S2048x16x1, .f32⟩
  | 114 => ⟨S2048x16x1, .f32⟩
  | 115 => ⟨S_, .f32⟩
  | 116 => ⟨S2048x16x1, .f32⟩
  | 117 => ⟨S2048x16x1, .f32⟩
  | 118 => ⟨S2048x16x128, .f32⟩
  | 119 => ⟨S2048x16x128, .f32⟩
  | 120 => ⟨S2048x2048, .f32⟩
  | 121 => ⟨S2048x16, .f32⟩
  | 122 => ⟨S2048x16x1, .f32⟩
  | 123 => ⟨S2048x16x1, .f32⟩
  | 124 => ⟨S_, .f32⟩
  | 125 => ⟨S2048x16x1, .f32⟩
  | 126 => ⟨S2048x16x1, .f32⟩
  | 127 => ⟨S2048x16, .f32⟩
  | _ => ⟨S2048x2048, .f32⟩

abbrev hbmTy0_1 (i : Nat) : BufTy := match i % 128 with
  | 0 => ⟨S2048x128, .f32⟩
  | 1 => ⟨S_, .f32⟩
  | 2 => ⟨S2048, .f32⟩
  | 3 => ⟨S2048x1, .f32⟩
  | 4 => ⟨S_, .f32⟩
  | 5 => ⟨S2048x1, .f32⟩
  | 6 => ⟨S2048x1, .f32⟩
  | 7 => ⟨S2048x128, .f32⟩
  | 8 => ⟨S2048x128, .f32⟩
  | 9 => ⟨S2048x128, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S2048x128, .f32⟩
  | 17 => ⟨S2048x128, .f32⟩
  | 18 => ⟨S_, .f32⟩
  | 19 => ⟨S2048x1, .f32⟩
  | 20 => ⟨S2048x1, .f32⟩
  | 21 => ⟨S2048x1, .f32⟩
  | 22 => ⟨S2048x128, .f32⟩
  | 23 => ⟨S2048x128, .f32⟩
  | 24 => ⟨S1x128, .f32⟩
  | 25 => ⟨S2048x128, .f32⟩
  | 26 => ⟨S2048x128, .f32⟩
  | 27 => ⟨S1x128, .f32⟩
  | 28 => ⟨S2048x128, .f32⟩
  | 29 => ⟨S2048x128, .f32⟩
  | 30 => ⟨S2048x128, .f32⟩
  | 31 => ⟨S2048x1, .f32⟩
  | 32 => ⟨S1x2048, .f32⟩
  | 33 => ⟨S2048x2048, .f32⟩
  | 34 => ⟨S2048x512, .f32⟩
  | 35 => ⟨S2048x512, .i32⟩
  | 36 => ⟨S_, .f32⟩
  | 37 => ⟨S2048x512, .f32⟩
  | 38 => ⟨S2048x512, .i1⟩
  | 39 => ⟨S_, .f32⟩
  | 40 => ⟨S_, .f32⟩
  | 41 => ⟨S2048x512, .f32⟩
  | 42 => ⟨S2048x512, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x64, .f32⟩
  | .local _ .vmem, ⟨3, _⟩ => ⟨S256x64, .f32⟩
  | .local _ .vmem, ⟨4, _⟩ => ⟨S256x128, .f32⟩
  | .local _ .vmem, ⟨5, _⟩ => ⟨S256x128, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | .local _ .vmem, ⟨10, _⟩ => ⟨S2048x128, .f32⟩
  | .local _ .vmem, ⟨11, _⟩ => ⟨S1x2048, .f32⟩
  | .local _ .vmem, ⟨12, _⟩ => ⟨S256x16, .f32⟩
  | .local _ .vmem, ⟨13, _⟩ => ⟨S256x16, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_1 : Ref sig .tc := ⟨.hbm, 109, rfl⟩
abbrev main_v97 : Ref sig .tc := ⟨.hbm, 110, rfl⟩
abbrev main_v98 : Ref sig .tc := ⟨.hbm, 111, rfl⟩
abbrev main_cst_2 : Ref sig .tc := ⟨.hbm, 112, rfl⟩
abbrev main_v99 : Ref sig .tc := ⟨.hbm, 113, rfl⟩
abbrev main_v100 : Ref sig .tc := ⟨.hbm, 114, rfl⟩
abbrev main_cst_3 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_4 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_5 : Ref sig .tc := ⟨.hbm, 129, rfl⟩
abbrev main_v113 : Ref sig .tc := ⟨.hbm, 130, rfl⟩
abbrev main_v114 : Ref sig .tc := ⟨.hbm, 131, rfl⟩
abbrev main_cst_6 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_7 : Ref sig .tc := ⟨.hbm, 138, rfl⟩
abbrev main_v120 : Ref sig .tc := ⟨.hbm, 139, rfl⟩
abbrev main_v121 : Ref sig .tc := ⟨.hbm, 140, rfl⟩
abbrev main_cst_8 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_9 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_call0_v0_0 : Ref sig .tc := ⟨.hbm, 158, rfl⟩
abbrev main_call0_v0_1 : Ref sig .tc := ⟨.hbm, 159, rfl⟩
abbrev main_call0_v1 : Ref sig .tc := ⟨.hbm, 160, rfl⟩
abbrev main_v137 : Ref sig .tc := ⟨.hbm, 161, rfl⟩
abbrev main_values : Ref sig .tc := ⟨.hbm, 162, rfl⟩
abbrev main_indices : Ref sig .tc := ⟨.hbm, 163, rfl⟩
abbrev main_cst_10 : Ref sig .tc := ⟨.hbm, 164, rfl⟩
abbrev main_v138 : Ref sig .tc := ⟨.hbm, 165, rfl⟩
abbrev main_v139 : Ref sig .tc := ⟨.hbm, 166, rfl⟩
abbrev main_cst_11 : Ref sig .tc := ⟨.hbm, 167, rfl⟩
abbrev main_call1_v0 : Ref sig .tc := ⟨.hbm, 168, rfl⟩
abbrev main_call1_v1 : Ref sig .tc := ⟨.hbm, 169, rfl⟩
abbrev main_v140 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S8192x64 : Shape := ⟨2, ![8192, 64]⟩
abbrev S2048x16x128 : Shape := ⟨3, ![2048, 16, 128]⟩
abbrev S_ : Shape := ⟨0, ![]⟩
abbrev S2048x1 : Shape := ⟨2, ![2048, 1]⟩
abbrev S1x128 : Shape := ⟨2, ![1, 128]⟩
abbrev S2048x64 : Shape := ⟨2, ![2048, 64]⟩
abbrev S2048x32 : Shape := ⟨2, ![2048, 32]⟩
abbrev S2048x1x32 : Shape := ⟨3, ![2048, 1, 32]⟩
abbrev S2048x16x32 : Shape := ⟨3, ![2048, 16, 32]⟩
abbrev S2048x16x64 : Shape := ⟨3, ![2048, 16, 64]⟩
abbrev S32768x128 : Shape := ⟨2, ![32768, 128]⟩
abbrev S32768x64x2x1 : Shape := ⟨4, ![32768, 64, 2, 1]⟩
abbrev S32768x64x1x1 : Shape := ⟨4, ![32768, 64, 1, 1]⟩
abbrev S32768x64x1 : Shape := ⟨3, ![32768, 64, 1]⟩
abbrev S32768x64x2 : Shape := ⟨3, ![32768, 64, 2]⟩
abbrev S32768x32x2x2 : Shape := ⟨4, ![32768, 32, 2, 2]⟩
abbrev S32768x32x1x2 : Shape := ⟨4, ![32768, 32, 1, 2]⟩
abbrev S32768x32x2 : Shape := ⟨3, ![32768, 32, 2]⟩
abbrev S32768x32x4 : Shape := ⟨3, ![32768, 32, 4]⟩
abbrev S32768x16x2x4 : Shape := ⟨4, ![32768, 16, 2, 4]⟩
abbrev S32768x16x1x4 : Shape := ⟨4, ![32768, 16, 1, 4]⟩
abbrev S32768x16x4 : Shape := ⟨3, ![32768, 16, 4]⟩
abbrev S32768x16x8 : Shape := ⟨3, ![32768, 16, 8]⟩
abbrev S32768x8x2x8 : Shape := ⟨4, ![32768, 8, 2, 8]⟩
abbrev S32768x8x1x8 : Shape := ⟨4, ![32768, 8, 1, 8]⟩
abbrev S32768x8x8 : Shape := ⟨3, ![32768, 8, 8]⟩
abbrev S32768x8x16 : Shape := ⟨3, ![32768, 8, 16]⟩
abbrev S32768x4x2x16 : Shape := ⟨4, ![32768, 4, 2, 16]⟩
abbrev S32768x4x1x16 : Shape := ⟨4, ![32768, 4, 1, 16]⟩
abbrev S32768x4x16 : Shape := ⟨3, ![32768, 4, 16]⟩
abbrev S32768x4x32 : Shape := ⟨3, ![32768, 4, 32]⟩
abbrev S32768x2x2x32 : Shape := ⟨4, ![32768, 2, 2, 32]⟩
abbrev S32768x2x1x32 : Shape := ⟨4, ![32768, 2, 1, 32]⟩
abbrev S32768x2x32 : Shape := ⟨3, ![32768, 2, 32]⟩
abbrev S32768x2x64 : Shape := ⟨3, ![32768, 2, 64]⟩
abbrev S32768x1x2x64 : Shape := ⟨4, ![32768, 1, 2, 64]⟩
abbrev S32768x1x1x64 : Shape := ⟨4, ![32768, 1, 1, 64]⟩
abbrev S32768x1x64 : Shape := ⟨3, ![32768, 1, 64]⟩
abbrev S32768x1x128 : Shape := ⟨3, ![32768, 1, 128]⟩
abbrev S2048x64x2x1 : Shape := ⟨4, ![2048, 64, 2, 1]⟩
abbrev S2048x64x1x1 : Shape := ⟨4, ![2048, 64, 1, 1]⟩
abbrev S2048x64x1 : Shape := ⟨3, ![2048, 64, 1]⟩
abbrev S2048x64x2 : Shape := ⟨3, ![2048, 64, 2]⟩
abbrev S2048x32x2x2 : Shape := ⟨4, ![2048, 32, 2, 2]⟩
abbrev S2048x32x1x2 : Shape := ⟨4, ![2048, 32, 1, 2]⟩
abbrev S2048x32x2 : Shape := ⟨3, ![2048, 32, 2]⟩
abbrev S2048x32x4 : Shape := ⟨3, ![2048, 32, 4]⟩
abbrev S2048x16x2x4 : Shape := ⟨4, ![2048, 16, 2, 4]⟩
abbrev S2048x16x1x4 : Shape := ⟨4, ![2048, 16, 1, 4]⟩
abbrev S2048x16x4 : Shape := ⟨3, ![2048, 16, 4]⟩
abbrev S2048x16x8 : Shape := ⟨3, ![2048, 16, 8]⟩
abbrev S2048x8x2x8 : Shape := ⟨4, ![2048, 8, 2, 8]⟩
abbrev S2048x8x1x8 : Shape := ⟨4, ![2048, 8, 1, 8]⟩
abbrev S2048x8x8 : Shape := ⟨3, ![2048, 8, 8]⟩
abbrev S2048x8x16 : Shape := ⟨3, ![2048, 8, 16]⟩
abbrev S2048x4x2x16 : Shape := ⟨4, ![2048, 4, 2, 16]⟩
abbrev S2048x4x1x16 : Shape := ⟨4, ![2048, 4, 1, 16]⟩
abbrev S2048x4x16 : Shape := ⟨3, ![2048, 4, 16]⟩
abbrev S2048x4x32 : Shape := ⟨3, ![2048, 4, 32]⟩
abbrev S2048x2x2x32 : Shape := ⟨4, ![2048, 2, 2, 32]⟩
abbrev S2048x2x1x32 : Shape := ⟨4, ![2048, 2, 1, 32]⟩
abbrev S2048x2x32 : Shape := ⟨3, ![2048, 2, 32]⟩
abbrev S2048x2x64 : Shape := ⟨3, ![2048, 2, 64]⟩
abbrev S2048x1x2x64 : Shape := ⟨4, ![2048, 1, 2, 64]⟩
abbrev S2048x1x1x64 : Shape := ⟨4, ![2048, 1, 1, 64]⟩
abbrev S2048x1x64 : Shape := ⟨3, ![2048, 1, 64]⟩
abbrev S2048x1x128 : Shape := ⟨3, ![2048, 1, 128]⟩
abbrev S2048x16x1 : Shape := ⟨3, ![2048, 16, 1]⟩
abbrev S2048x16x2048 : Shape := ⟨3, ![2048, 16, 2048]⟩
abbrev S1x1x2048 : Shape := ⟨3, ![1, 1, 2048]⟩
abbrev S1x2048 : Shape := ⟨2, ![1, 2048]⟩
abbrev S2048x512 : Shape := ⟨2, ![2048, 512]⟩

abbrev nBuf : Space → Nat
  | .hbm => 265
  | .vmem => 0
  | .smem => 0
  | _ => 0

abbrev hbmTy0_0 (i : Nat) : BufTy := match i % 128 with
  | 0 => ⟨S2048x2048, .f32⟩
  | 1 => ⟨S2048x1536, .f32⟩
  | 2 => ⟨S2048, .i32⟩
  | 3 => ⟨S1536x2048, .f32⟩
  | 4 => ⟨S2048x128, .f32⟩
  | 5 => ⟨S128, .f32⟩
  | 6 => ⟨S128, .f32⟩
  | 7 => ⟨S2048x16, .f32⟩
  | 8 => ⟨S8192x64, .f32⟩
  | 9 => ⟨S2048x2048, .f32⟩
  | 10 => ⟨S2048x16x128, .f32⟩
  | 11 => ⟨S2048x128, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S2048x128, .f32⟩
  | 19 => ⟨S2048x128, .f32⟩
  | 20 => ⟨S2048x128, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x128, .f32⟩
  | 28 => ⟨S2048x128, .f32⟩
  | 29 => ⟨S_, .f32⟩
  | 30 => ⟨S2048x1, .f32⟩
  | 31 => ⟨S2048x1, .f32⟩
  | 32 => ⟨S2048x1, .f32⟩
  | 33 => ⟨S2048x128, .f32⟩
  | 34 => ⟨S2048x128, .f32⟩
  | 35 => ⟨S1x128, .f32⟩
  | 36 => ⟨S2048x128, .f32⟩
  | 37 => ⟨S2048x128, .f32⟩
  | 38 => ⟨S1x128, .f32⟩
  | 39 => ⟨S2048x128, .f32⟩
  | 40 => ⟨S2048x128, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2048x64, .f32⟩
  | 50 => ⟨S2048x32, .f32⟩
  | 51 => ⟨S2048x32, .f32⟩
  | 52 => ⟨S2048x1x32, .f32⟩
  | 53 => ⟨S2048x1x32, .f32⟩
  | 54 => ⟨S2048x16x32, .f32⟩
  | 55 => ⟨S2048x16x32, .f32⟩
  | 56 => ⟨S2048x16x32, .f32⟩
  | 57 => ⟨S2048x16x32, .f32⟩
  | 58 => ⟨S2048x16x32, .f32⟩
  | 59 => ⟨S2048x16x32, .f32⟩
  | 60 => ⟨S2048x16x32, .f32⟩
  | 61 => ⟨S2048x16x32, .f32⟩
  | 62 => ⟨S2048x16x32, .f32⟩
  | 63 => ⟨S2048x16x32, .f32⟩
  | 64 => ⟨S2048x16x32, .f32⟩
  | 65 => ⟨S2048x16x32, .f32⟩
  | 66 => ⟨S2048x16x64, .f32⟩
  | 67 => ⟨S2048x16x128, .f32⟩
  | 68 => ⟨S2048x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x32, .f32⟩
  | 75 => ⟨S2048x32, .f32⟩
  | 76 => ⟨S2048x64, .f32⟩
  | 77 => ⟨S2048x128, .f32⟩
  | 78 => ⟨S32768x128, .f32⟩
  | 79 => ⟨S32768x64x2x1, .f32⟩
  | 80 => ⟨S32768x64x1x1, .f32⟩
  | 81 => ⟨S32768x64x1, .f32⟩
  | 82 => ⟨S32768x64x1x1, .f32⟩
  | 83 => ⟨S32768x64x1, .f32⟩
  | 84 => ⟨S32768x64x1, .f32⟩
  | 85 => ⟨S32768x64x1, .f32⟩
  | 86 => ⟨S32768x64x2, .f32⟩
  | 87 => ⟨S32768x128, .f32⟩
  | 88 => ⟨S32768x32x2x2, .f32⟩
  | 89 => ⟨S32768x32x1x2, .f32⟩
  | 90 => ⟨S32768x32x2, .f32⟩
  | 91 => ⟨S32768x32x1x2, .f32⟩
  | 92 => ⟨S32768x32x2, .f32⟩
  | 93 => ⟨S32768x32x2, .f32⟩
  | 94 => ⟨S32768x32x2, .f32⟩
  | 95 => ⟨S32768x32x4, .f32⟩
  | 96 => ⟨S32768x128, .f32⟩
  | 97 => ⟨S32768x16x2x4, .f32⟩
  | 98 => ⟨S32768x16x1x4, .f32⟩
  | 99 => ⟨S32768x16x4, .f32⟩
  | 100 => ⟨S32768x16x1x4, .f32⟩
  | 101 => ⟨S32768x16x4, .f32⟩
  | 102 => ⟨S32768x16x4, .f32⟩
  | 103 => ⟨S32768x16x4, .f32⟩
  | 104 => ⟨S32768x16x8, .f32⟩
  | 105 => ⟨S32768x128, .f32⟩
  | 106 => ⟨S32768x8x2x8, .f32⟩
  | 107 => ⟨S32768x8x1x8, .f32⟩
  | 108 => ⟨S32768x8x8, .f32⟩
  | 109 => ⟨S32768x8x1x8, .f32⟩
  | 110 => ⟨S32768x8x8, .f32⟩
  | 111 => ⟨S32768x8x8, .f32⟩
  | 112 => ⟨S32768x8x8, .f32⟩
  | 113 => ⟨S32768x8x16, .f32⟩
  | 114 => ⟨S32768x128, .f32⟩
  | 115 => ⟨S32768x4x2x16, .f32⟩
  | 116 => ⟨S32768x4x1x16, .f32⟩
  | 117 => ⟨S32768x4x16, .f32⟩
  | 118 => ⟨S32768x4x1x16, .f32⟩
  | 119 => ⟨S32768x4x16, .f32⟩
  | 120 => ⟨S32768x4x16, .f32⟩
  | 121 => ⟨S32768x4x16, .f32⟩
  | 122 => ⟨S32768x4x32, .f32⟩
  | 123 => ⟨S32768x128, .f32⟩
  | 124 => ⟨S32768x2x2x32, .f32⟩
  | 125 => ⟨S32768x2x1x32, .f32⟩
  | 126 => ⟨S32768x2x32, .f32⟩
  | 127 => ⟨S32768x2x1x32, .f32⟩
  | _ => ⟨S2048x2048, .f32⟩

abbrev hbmTy0_1 (i : Nat) : BufTy := match i % 128 with
  | 0 => ⟨S32768x2x32, .f32⟩
  | 1 => ⟨S32768x2x32, .f32⟩
  | 2 => ⟨S32768x2x32, .f32⟩
  | 3 => ⟨S32768x2x64, .f32⟩
  | 4 => ⟨S32768x128, .f32⟩
  | 5 => ⟨S32768x1x2x64, .f32⟩
  | 6 => ⟨S32768x1x1x64, .f32⟩
  | 7 => ⟨S32768x1x64, .f32⟩
  | 8 => ⟨S32768x1x1x64, .f32⟩
  | 9 => ⟨S32768x1x64, .f32⟩
  | 10 => ⟨S32768x1x64, .f32⟩
  | 11 => ⟨S32768x1x64, .f32⟩
  | 12 => ⟨S32768x1x128, .f32⟩
  | 13 => ⟨S32768x128, .f32⟩
  | 14 => ⟨S2048x16x128, .f32⟩
  | 15 => ⟨S_, .f32⟩
  | 16 => ⟨S2048x16x128, .f32⟩
  | 17 => ⟨S2048x16x128, .f32⟩
  | 18 => ⟨S2048x64x2x1, .f32⟩
  | 19 => ⟨S2048x64x1x1, .f32⟩
  | 20 => ⟨S2048x64x1, .f32⟩
  | 21 => ⟨S2048x64x1x1, .f32⟩
  | 22 => ⟨S2048x64x1, .f32⟩
  | 23 => ⟨S2048x64x1, .f32⟩
  | 24 => ⟨S2048x64x1, .f32⟩
  | 25 => ⟨S2048x64x2, .f32⟩
  | 26 => ⟨S2048x128, .f32⟩
  | 27 => ⟨S2048x32x2x2, .f32⟩
  | 28 => ⟨S2048x32x1x2, .f32⟩
  | 29 => ⟨S2048x32x2, .f32⟩
  | 30 => ⟨S2048x32x1x2, .f32⟩
  | 31 => ⟨S2048x32x2, .f32⟩
  | 32 => ⟨S2048x32x2, .f32⟩
  | 33 => ⟨S2048x32x2, .f32⟩
  | 34 => ⟨S2048x32x4, .f32⟩
  | 35 => ⟨S2048x128, .f32⟩
  | 36 => ⟨S2048x16x2x4, .f32⟩
  | 37 => ⟨S2048x16x1x4, .f32⟩
  | 38 => ⟨S2048x16x4, .f32⟩
  | 39 => ⟨S2048x16x1x4, .f32⟩
  | 40 => ⟨S2048x16x4, .f32⟩
  | 41 => ⟨S2048x16x4, .f32⟩
  | 42 => ⟨S2048x16x4, .f32⟩
  | 43 => ⟨S2048x16x8, .f32⟩
  | 44 => ⟨S2048x128, .f32⟩
  | 45 => ⟨S2048x8x2x8, .f32⟩
  | 46 => ⟨S2048x8x1x8, .f32⟩
  | 47 => ⟨S2048x8x8, .f32⟩
  | 48 => ⟨S2048x8x1x8, .f32⟩
  | 49 => ⟨S2048x8x8, .f32⟩
  | 50 => ⟨S2048x8x8, .f32⟩
  | 51 => ⟨S2048x8x8, .f32⟩
  | 52 => ⟨S2048x8x16, .f32⟩
  | 53 => ⟨S2048x128, .f32⟩
  | 54 => ⟨S2048x4x2x16, .f32⟩
  | 55 => ⟨S2048x4x1x16, .f32⟩
  | 56 => ⟨S2048x4x16, .f32⟩
  | 57 => ⟨S2048x4x1x16, .f32⟩
  | 58 => ⟨S2048x4x16, .f32⟩
  | 59 => ⟨S2048x4x16, .f32⟩
  | 60 => ⟨S2048x4x16, .f32⟩
  | 61 => ⟨S2048x4x32, .f32⟩
  | 62 => ⟨S2048x128, .f32⟩
  | 63 => ⟨S2048x2x2x32, .f32⟩
  | 64 => ⟨S2048x2x1x32, .f32⟩
  | 65 => ⟨S2048x2x32, .f32⟩
  | 66 => ⟨S2048x2x1x32, .f32⟩
  | 67 => ⟨S2048x2x32, .f32⟩
  | 68 => ⟨S2048x2x32, .f32⟩
  | 69 => ⟨S2048x2x32, .f32⟩
  | 70 => ⟨S2048x2x64, .f32⟩
  | 71 => ⟨S2048x128, .f32⟩
  | 72 => ⟨S2048x1x2x64, .f32⟩
  | 73 => ⟨S2048x1x1x64, .f32⟩
  | 74 => ⟨S2048x1x64, .f32⟩
  | 75 => ⟨S2048x1x1x64, .f32⟩
  | 76 => ⟨S2048x1x64, .f32⟩
  | 77 => ⟨S2048x1x64, .f32⟩
  | 78 => ⟨S2048x1x64, .f32⟩
  | 79 => ⟨S2048x1x128, .f32⟩
  | 80 => ⟨S2048x128, .f32⟩
  | 81 => ⟨S_, .f32⟩
  | 82 => ⟨S2048x128, .f32⟩
  | 83 => ⟨S2048x128, .f32⟩
  | 84 => ⟨S2048x16x128, .f32⟩
  | 85 => ⟨S_, .f32⟩
  | 86 => ⟨S2048x16, .f32⟩
  | 87 => ⟨S2048x16x1, .f32⟩
  | 88 => ⟨S_, .f32⟩
  | 89 => ⟨S2048x16x1, .f32⟩
  | 90 => ⟨S2048x16x1, .f32⟩
  | 91 => ⟨S_, .f32⟩
  | 92 => ⟨S2048x16x1, .f32⟩
  | 93 => ⟨S2048x16x1, .f32⟩
  | 94 => ⟨S2048x16x128, .f32⟩
  | 95 => ⟨S2048x16x128, .f32⟩
  | 96 => ⟨S2048x128, .f32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S2048x128, .f32⟩
  | 107 => ⟨S2048x128, .f32⟩
  | 108 => ⟨S2048x16, .f32⟩
  | 109 => ⟨S2048x16x1, .f32⟩
  | 110 => ⟨S2048x16x1, .f32⟩
  | 111 => ⟨S_, .f32⟩
  | 112 => ⟨S2048x16x1, .f32⟩
  | 113 => ⟨S2048x16x1, .f32⟩
  | 114 => ⟨S2048x16, .f32⟩
  | 115 => ⟨S2048x16x2048, .f32⟩
  | 116 => ⟨S2048, .f32⟩
  | 117 => ⟨S1x1x2048, .f32⟩
  | 118 => ⟨S2048x16x2048, .f32⟩
  | 119 => ⟨S2048x16x2048, .f32⟩
  | 120 => ⟨S_, .f32⟩
  | 121 => ⟨S2048x16x2048, .f32⟩
  | 122 => ⟨S2048x16x2048, .f32⟩
  | 123 => ⟨S2048x2048, .f32⟩
  | 124 => ⟨S2048, .i32⟩
  | 125 => ⟨S1x2048, .i32⟩
  | 126 => ⟨S2048, .i32⟩
  | 127 => ⟨S2048x1, .i32⟩
  | _ => ⟨S2048x2048, .f32⟩

abbrev hbmTy0_2 (i : Nat) : BufTy := match i % 128 with
  | 0 => ⟨S2048x2048, .i32⟩
  | 1 => ⟨S2048x2048, .i32⟩
  | 2 => ⟨S2048x2048, .i1⟩
  | 3 => ⟨S_, .f32⟩
  | 4 => ⟨S_, .f32⟩
  | 5 => ⟨S2048x2048, .f32⟩
  | 6 => ⟨S2048x2048, .f32⟩
  | 7 => ⟨S2048x512, .f32⟩
  | 8 => ⟨S2048x512, .i32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_cst_5 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_cst_6 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_cst_7 : Ref sig .tc := ⟨.hbm, 213, rfl⟩
abbrev main_v195 : Ref sig .tc := ⟨.hbm, 214, rfl⟩
abbrev main_v196 : Ref sig .tc := ⟨.hbm, 215, rfl⟩
abbrev main_cst_8 : Ref sig .tc := ⟨.hbm, 216, rfl⟩
abbrev main_v197 : Ref sig .tc := ⟨.hbm, 217, rfl⟩
abbrev main_v198 : Ref sig .tc := ⟨.hbm, 218, rfl⟩
abbrev main_cst_9 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_cst_10 : Ref sig .tc := ⟨.hbm, 225, rfl⟩
abbrev main_v204 : Ref sig .tc := ⟨.hbm, 226, rfl⟩
abbrev main_v205 : Ref sig .tc := ⟨.hbm, 227, rfl⟩
abbrev main_cst_11 : Ref sig .tc := ⟨.hbm, 228, rfl⟩
abbrev main_v206 : Ref sig .tc := ⟨.hbm, 229, rfl⟩
abbrev main_v207 : Ref sig .tc := ⟨.hbm, 230, rfl⟩
abbrev main_cst_12 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_cst_13 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_call0_cst : Ref sig .tc := ⟨.hbm, 248, rfl⟩
abbrev main_call0_v0 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_cst_14 : Ref sig .tc := ⟨.hbm, 259, rfl⟩
abbrev main_call1_v0 : Ref sig .tc := ⟨.hbm, 260, rfl⟩
abbrev main_call1_v1 : Ref sig .tc := ⟨.hbm, 261, rfl⟩
abbrev main_v232 : Ref sig .tc := ⟨.hbm, 262, rfl⟩
abbrev main_values : Ref sig .tc := ⟨.hbm, 263, rfl⟩
abbrev main_indices : Ref sig .tc := ⟨.hbm, 264, rfl⟩

abbrev nD : Nat := 1
abbrev τ : Topo := Topo.v7x

variable {F : FTy → Type} [FloatOps F]
-- ==== Proof.HostLine.lean ====
/-
  The host line before the first region: what it leaves in the arrays the regions read, as the reference's own stages.
-/
module

public import proofs.«01_k».proof.Proof.Gen.KernelIdeal.Launch
public import proofs.«01_k».proof.Proof.Gen.ReferenceIdeal.Read
public import Idealize.ShloMosaic.Lib.StableHlo.RunRead

@[expose] public section

open Idealize.ShloMosaic Idealize.ShloMosaic.StableHlo Cert.KernelIdeal Cert.KernelIdeal.Gen
open Cert.ReferenceIdeal.Read

noncomputable section

namespace Cert.HostLine

/-- The line's operations `a, …, a + n − 1`. -/
abbrev seg (a n : Nat) : List (HloOp τ sig (Elt Ideal)) := ((hostOps0 (F := Ideal)).drop a).take n

/-- The contents after `a + n` operations are those after the next `n` over those after `a`. -/
theorem upto_add (V : Valuation τ sig (Elt Ideal)) (a n : Nat) :
    upto hostOps0 V (a + n) = after (seg a n) (upto hostOps0 V a) := by
  have split : ∀ (l₁ l₂ : List (HloOp τ sig (Elt Ideal))) (U : Valuation τ sig (Elt Ideal)),
      after (l₁ ++ l₂) U = after l₂ (after l₁ U) := fun l₁ => by
    induction l₁ with
    | nil => intro l₂ U; rfl
    | cons op l ih => intro l₂ U; exact ih l₂ _
  show after ((hostOps0 (F := Ideal)).take (a + n)) V = after (seg a n) (after ((hostOps0 (F := Ideal)).take a) V)
  rw [List.take_add, split]

variable (V : Valuation τ sig (Elt Ideal))

/-- The cosines and sines gathered. -/
theorem angles : upto hostOps0 V 9 (Proc.devRef .tc main_v6)
    = val_main_v33 (F := Ideal) (V (Proc.devRef .tc main_arg2)) (V (Proc.devRef .tc main_arg8)) := by
  after_reads_simp
  rfl

/-- The queries' rows, rotated. -/
theorem rotated_queries (x1 x2 x3 x8) (h1 : V (Proc.devRef .tc main_arg1) = x1) (h3 : V (Proc.devRef .tc main_arg3) = x3)
    (h : V (Proc.devRef .tc main_v6) = val_main_v33 (F := Ideal) x2 x8) :
    after (seg 9 23) V (Proc.devRef .tc main_v29) = val_main_v62 (F := Ideal) x1 x2 x3 x8 := by
  have e1 : upto (seg 9 23) V 21 (Proc.devRef .tc main_v19) = val_main_v44 (F := Ideal) x1 x2 x3 x8 := by
    after_reads_simp
    rw [h, h1, h3]
    rfl
  have e2 : upto (seg 9 23) V 21 (Proc.devRef .tc main_v26) = val_main_v49 (F := Ideal) x1 x2 x3 x8 := by
    after_reads_simp
    rw [h, h1, h3]
    rfl
  have e3 : upto (seg 9 23) V 21 (Proc.devRef .tc main_v27) = val_main_v50 (F := Ideal) x1 x3 := by
    after_reads_simp
    rw [h1, h3]
    rfl
  after_reads_simp
  show shapeCast S32768x128 (concatenate S2048x16x128 2
    [⟨S2048x16x32, (upto (seg 9 23) V 21 (Proc.devRef .tc main_v19) : S2048x16x32.Idx → EReal)⟩,
      ⟨S2048x16x32, (upto (seg 9 23) V 21 (Proc.devRef .tc main_v26) : S2048x16x32.Idx → EReal)⟩,
      ⟨S2048x16x64, (upto (seg 9 23) V 21 (Proc.devRef .tc main_v27) : S2048x16x64.Idx → EReal)⟩]
    concatenates_S2048x16x32_S2048x16x32_S2048x16x64_S2048x16x128_d2) shapeCasts_S2048x16x128_S32768x128 = _
  rw [e1, e2, e3]
  rfl

/-- The transform's stage of run length 1. -/
theorem stage1 (x1 x2 x3 x8) (h : V (Proc.devRef .tc main_v29) = val_main_v62 (F := Ideal) x1 x2 x3 x8) :
    after (seg 32 9) V (Proc.devRef .tc main_v38) = val_main_v71 (F := Ideal) x1 x2 x3 x8 := by
  have e1 : upto (seg 32 9) V 7 (Proc.devRef .tc main_v35) = val_main_v68 (F := Ideal) x1 x2 x3 x8 := by
    after_reads_simp
    rw [h]
    rfl
  have e2 : upto (seg 32 9) V 7 (Proc.devRef .tc main_v36) = val_main_v69 (F := Ideal) x1 x2 x3 x8 := by
    after_reads_simp
    rw [h]
    rfl
  after_reads_simp
  rw [e1, e2]
  rfl

/-- The transform's stage of run length 2. -/
theorem stage2 (x1 x2 x3 x8) (h : V (Proc.devRef .tc main_v38) = val_main_v71 (F := Ideal) x1 x2 x3 x8) :
    after (seg 41 9) V (Proc.devRef .tc main_v47) = val_main_v80 (F := Ideal) x1 x2 x3 x8 := by
  have e1 : upto (seg 41 9) V 7 (Proc.devRef .tc main_v44) = val_main_v77 (F := Ideal) x1 x2 x3 x8 := by
    after_reads_simp
    rw [h]
    rfl
  have e2 : upto (seg 41 9) V 7 (Proc.devRef .tc main_v45) = val_main_v78 (F := Ideal) x1 x2 x3 x8 := by
    after_reads_simp
    rw [h]
    rfl
  after_reads_simp
  rw [e1, e2]
  rfl

/-- The transform's stage of run length 4. -/
theorem stage4 (x1 x2 x3 x8) (h : V (Proc.devRef .tc main_v47) = val_main_v80 (F := Ideal) x1 x2 x3 x8) :
    after (seg 50 9) V (Proc.devRef .tc main_v56) = val_main_v89 (F := Ideal) x1 x2 x3 x8 := by
  have e1 : upto (seg 50 9) V 7 (Proc.devRef .tc main_v53) = val_main_v86 (F := Ideal) x1 x2 x3 x8 := by
    after_reads_simp
    rw [h]
    rfl
  have e2 : upto (seg 50 9) V 7 (Proc.devRef .tc main_v54) = val_main_v87 (F := Ideal) x1 x2 x3 x8 := by
    after_reads_simp
    rw [h]
    rfl
  after_reads_simp
  rw [e1, e2]
  rfl

/-- The transform's stage of run length 8. -/
theorem stage8 (x1 x2 x3 x8) (h : V (Proc.devRef .tc main_v56) = val_main_v89 (F := Ideal) x1 x2 x3 x8) :
    after (seg 59 9) V (Proc.devRef .tc main_v65) = val_main_v98 (F := Ideal) x1 x2 x3 x8 := by
  have e1 : upto (seg 59 9) V 7 (Proc.devRef .tc main_v62) = val_main_v95 (F := Ideal) x1 x2 x3 x8 := by
    after_reads_simp
    rw [h]
    rfl
  have e2 : upto (seg 59 9) V 7 (Proc.devRef .tc main_v63) = val_main_v96 (F := Ideal) x1 x2 x3 x8 := by
    after_reads_simp
    rw [h]
    rfl
  after_reads_simp
  rw [e1, e2]
  rfl

/-- The transform's stage of run length 16. -/
theorem stage16 (x1 x2 x3 x8) (h : V (Proc.devRef .tc main_v65) = val_main_v98 (F := Ideal) x1 x2 x3 x8) :
    after (seg 68 9) V (Proc.devRef .tc main_v74) = val_main_v107 (F := Ideal) x1 x2 x3 x8 := by
  have e1 : upto (seg 68 9) V 7 (Proc.devRef .tc main_v71) = val_main_v104 (F := Ideal) x1 x2 x3 x8 := by
    after_reads_simp
    rw [h]
    rfl
  have e2 : upto (seg 68 9) V 7 (Proc.devRef .tc main_v72) = val_main_v105 (F := Ideal) x1 x2 x3 x8 := by
    after_reads_simp
    rw [h]
    rfl
  after_reads_simp
  rw [e1, e2]
  rfl

/-- The transform's stage of run length 32. -/
theorem stage32 (x1 x2 x3 x8) (h : V (Proc.devRef .tc main_v74) = val_main_v107 (F := Ideal) x1 x2 x3 x8) :
    after (seg 77 9) V (Proc.devRef .tc main_v83) = val_main_v116 (F := Ideal) x1 x2 x3 x8 := by
  have e1 : upto (seg 77 9) V 7 (Proc.devRef .tc main_v80) = val_main_v113 (F := Ideal) x1 x2 x3 x8 := by
    after_reads_simp
    rw [h]
    rfl
  have e2 : upto (seg 77 9) V 7 (Proc.devRef .tc main_v81) = val_main_v114 (F := Ideal) x1 x2 x3 x8 := by
    after_reads_simp
    rw [h]
    rfl
  after_reads_simp
  rw [e1, e2]
  rfl

/-- The transform's stage of run length 64. -/
theorem stage64 (x1 x2 x3 x8) (h : V (Proc.devRef .tc main_v83) = val_main_v116 (F := Ideal) x1 x2 x3 x8) :
    after (seg 86 9) V (Proc.devRef .tc main_v92) = val_main_v125 (F := Ideal) x1 x2 x3 x8 := by
  have e1 : upto (seg 86 9) V 7 (Proc.devRef .tc main_v89) = val_main_v122 (F := Ideal) x1 x2 x3 x8 := by
    after_reads_simp
    rw [h]
    rfl
  have e2 : upto (seg 86 9) V 7 (Proc.devRef .tc main_v90) = val_main_v123 (F := Ideal) x1 x2 x3 x8 := by
    after_reads_simp
    rw [h]
    rfl
  after_reads_simp
  rw [e1, e2]
  rfl

/-- The queries' scales. -/
theorem query_scale (x1 x2 x3 x8) (h : V (Proc.devRef .tc main_v92) = val_main_v125 (F := Ideal) x1 x2 x3 x8) :
    after (seg 95 17) V (Proc.devRef .tc main_v102) = val_main_v200 (F := Ideal) x1 x2 x3 x8 := by
  after_reads_simp
  rw [h]
  rfl

/-- The quantised queries, heads side by side. -/
theorem query (x1 x2 x3 x8) (h : V (Proc.devRef .tc main_v92) = val_main_v125 (F := Ideal) x1 x2 x3 x8) :
    after (seg 95 17) V (Proc.devRef .tc main_v105)
      = shapeCast S2048x2048 (val_main_v202 (F := Ideal) x1 x2 x3 x8) shapeCasts_S2048x16x128_S2048x2048 := by
  after_reads_simp
  rw [h]
  rfl

/-- The heads' weights. -/
theorem weights (x0 x1 x2 x3 x7 x8) (h0 : V (Proc.devRef .tc main_arg0) = x0) (h7 : V (Proc.devRef .tc main_arg7) = x7)
    (h : V (Proc.devRef .tc main_v102) = val_main_v200 (F := Ideal) x1 x2 x3 x8) :
    after (seg 112 7) V (Proc.devRef .tc main_v111) = val_main_v217 (F := Ideal) x0 x1 x2 x3 x7 x8 := by
  after_reads_simp
  rw [h, h0, h7]
  rfl

/-- The normalised keys. -/
theorem keys (x0 x4 x5 x6) (h0 : V (Proc.devRef .tc main_arg0) = x0) (h4 : V (Proc.devRef .tc main_arg4) = x4)
    (h5 : V (Proc.devRef .tc main_arg5) = x5) (h6 : V (Proc.devRef .tc main_arg6) = x6) :
    after (seg 119 30) V (Proc.devRef .tc main_v136) = val_main_v26 (F := Ideal) x0 x4 x5 x6 := by
  after_reads_simp
  rw [h0, h4, h5, h6]
  rfl

/-- The transformed queries: what the first 95 operations leave. -/
theorem transformed (x1 x2 x3 x8) (h1 : V (Proc.devRef .tc main_arg1) = x1) (h2 : V (Proc.devRef .tc main_arg2) = x2)
    (h3 : V (Proc.devRef .tc main_arg3) = x3) (h8 : V (Proc.devRef .tc main_arg8) = x8) :
    upto hostOps0 V 95 (Proc.devRef .tc main_v92) = val_main_v125 (F := Ideal) x1 x2 x3 x8 := by
  have a : upto hostOps0 V 9 (Proc.devRef .tc main_v6) = val_main_v33 (F := Ideal) x2 x8 := by rw [angles, h2, h8]
  have a1 : upto hostOps0 V 9 (Proc.devRef .tc main_arg1) = x1 := by after_reads_simp; exact h1
  have a3 : upto hostOps0 V 9 (Proc.devRef .tc main_arg3) = x3 := by after_reads_simp; exact h3
  have b0 := rotated_queries (upto hostOps0 V 9) x1 x2 x3 x8 a1 a3 a
  rw [← upto_add V 9 23] at b0
  have b1 := stage1 (upto hostOps0 V 32) x1 x2 x3 x8 b0
  rw [← upto_add V 32 9] at b1
  have b2 := stage2 (upto hostOps0 V 41) x1 x2 x3 x8 b1
  rw [← upto_add V 41 9] at b2
  have b3 := stage4 (upto hostOps0 V 50) x1 x2 x3 x8 b2
  rw [← upto_add V 50 9] at b3
  have b4 := stage8 (upto hostOps0 V 59) x1 x2 x3 x8 b3
  rw [← upto_add V 59 9] at b4
  have b5 := stage16 (upto hostOps0 V 68) x1 x2 x3 x8 b4
  rw [← upto_add V 68 9] at b5
  have b6 := stage32 (upto hostOps0 V 77) x1 x2 x3 x8 b5
  rw [← upto_add V 77 9] at b6
  have b7 := stage64 (upto hostOps0 V 86) x1 x2 x3 x8 b6
  rw [← upto_add V 86 9] at b7
  exact b7

/-- An operation of the line's last 37 leaves the quantised queries. -/
theorem query_kept : after (seg 112 37) V (Proc.devRef .tc main_v105) = V (Proc.devRef .tc main_v105) := by
  after_reads_simp

/-- An operation of the line's last 30 leaves the weights. -/
theorem weights_kept : after (seg 119 30) V (Proc.devRef .tc main_v111) = V (Proc.devRef .tc main_v111) := by
  after_reads_simp

/-- An operation after the ninth leaves the cosines and sines. -/
theorem angles_kept : after (seg 9 140) V (Proc.devRef .tc main_v6) = V (Proc.devRef .tc main_v6) := by
  after_reads_simp

/-- The whole line is its 149 operations. -/
theorem whole : after (hostOps0 (F := Ideal)) V = upto hostOps0 V 149 := rfl

/-- What the line leaves: the cosines and sines. -/
theorem line_angles (x2 x8) (h2 : V (Proc.devRef .tc main_arg2) = x2) (h8 : V (Proc.devRef .tc main_arg8) = x8) :
    after hostOps0 V (Proc.devRef .tc main_v6) = val_main_v33 (F := Ideal) x2 x8 := by
  rw [whole, upto_add V 9 140, angles_kept, angles, h2, h8]

/-- What the line leaves: the quantised queries. -/
theorem line_query (x1 x2 x3 x8) (h1 : V (Proc.devRef .tc main_arg1) = x1) (h2 : V (Proc.devRef .tc main_arg2) = x2)
    (h3 : V (Proc.devRef .tc main_arg3) = x3) (h8 : V (Proc.devRef .tc main_arg8) = x8) :
    after hostOps0 V (Proc.devRef .tc main_v105)
      = shapeCast S2048x2048 (val_main_v202 (F := Ideal) x1 x2 x3 x8) shapeCasts_S2048x16x128_S2048x2048 := by
  rw [whole, upto_add V 112 37, query_kept, upto_add V 95 17, query _ x1 x2 x3 x8 (transformed V x1 x2 x3 x8 h1 h2 h3 h8)]

/-- What the line leaves: the weights. -/
theorem line_weights (x0 x1 x2 x3 x7 x8) (h0 : V (Proc.devRef .tc main_arg0) = x0) (h1 : V (Proc.devRef .tc main_arg1) = x1)
    (h2 : V (Proc.devRef .tc main_arg2) = x2) (h3 : V (Proc.devRef .tc main_arg3) = x3)
    (h7 : V (Proc.devRef .tc main_arg7) = x7) (h8 : V (Proc.devRef .tc main_arg8) = x8) :
    after hostOps0 V (Proc.devRef .tc main_v111) = val_main_v217 (F := Ideal) x0 x1 x2 x3 x7 x8 := by
  have a0 : upto hostOps0 V 112 (Proc.devRef .tc main_arg0) = x0 := by after_reads_simp; exact h0
  have a7 : upto hostOps0 V 112 (Proc.devRef .tc main_arg7) = x7 := by after_reads_simp; exact h7
  have s := query_scale _ x1 x2 x3 x8 (transformed V x1 x2 x3 x8 h1 h2 h3 h8)
  rw [← upto_add V 95 17] at s
  rw [whole, upto_add V 119 30, weights_kept, upto_add V 112 7, weights _ x0 x1 x2 x3 x7 x8 a0 a7 s]

/-- What the line leaves: the normalised keys. -/
theorem line_keys (x0 x4 x5 x6) (h0 : V (Proc.devRef .tc main_arg0) = x0) (h4 : V (Proc.devRef .tc main_arg4) = x4)
    (h5 : V (Proc.devRef .tc main_arg5) = x5) (h6 : V (Proc.devRef .tc main_arg6) = x6) :
    after hostOps0 V (Proc.devRef .tc main_v136) = val_main_v26 (F := Ideal) x0 x4 x5 x6 := by
  have a0 : upto hostOps0 V 119 (Proc.devRef .tc main_arg0) = x0 := by after_reads_simp; exact h0
  have a4 : upto hostOps0 V 119 (Proc.devRef .tc main_arg4) = x4 := by after_reads_simp; exact h4
  have a5 : upto hostOps0 V 119 (Proc.devRef .tc main_arg5) = x5 := by after_reads_simp; exact h5
  have a6 : upto hostOps0 V 119 (Proc.devRef .tc main_arg6) = x6 := by after_reads_simp; exact h6
  rw [whole, upto_add V 119 30, keys _ x0 x4 x5 x6 a0 a4 a5 a6]

end Cert.HostLine
-- ==== Proof.Butterfly.lean ====
/-
  One stage of the Walsh–Hadamard butterfly on rows of 128 numbers, read at an index, in the two forms it is written
  in: by reshaping the row to pairs of runs and joining sums and differences (the reference), and by rotating the row
  both ways and choosing by a bit of the position (the kernel). Both are `bf h` of the row.
-/
module

public import Idealize.ShloMosaic.PureOps
public import Idealize.ShloMosaic.PureOps.Ideal
public import Idealize.ShloMosaic.Lib.ValueIdx
public import Idealize.ShloMosaic.Lib.ValueIdxCore
public import Idealize.ShloMosaic.Lib.Pipeline.Value

@[expose] public section

open Idealize.ShloMosaic Idealize.ShloMosaic.ValueIdx

noncomputable section

namespace Cert.Rows

/-- The position `k` places further along a row of 128, round the end. -/
def rot (k : Nat) (j : Fin 128) : Fin 128 := ⟨(j.val + k) % 128, Nat.mod_lt _ (by decide)⟩

/-- One butterfly stage of run length `h` on a row of 128: each pair of positions `h` apart becomes its sum and its
    difference. -/
def bf (h : Nat) (x : Fin 128 → EReal) : Fin 128 → EReal := fun j =>
  if (j.val / h) % 2 = 1 then x (rot (128 - h) j) - x j else x j + x (rot h j)

/-- Row `t` of a rank-2 array of 128 columns. -/
def row {N : Nat} (x : (⟨2, ![N, 128]⟩ : Shape).Idx → EReal) (t : Fin N) : Fin 128 → EReal := fun j => x (ix2 t j)

/-- A row read at a position is the array read there. -/
theorem row_apply {N : Nat} (x : (⟨2, ![N, 128]⟩ : Shape).Idx → EReal) (t : Fin N) (j : Fin 128) :
    row x t j = x (ix2 t j) := rfl

/-- Two pieces cut off a row and joined the other way round are the row rotated. -/
theorem rotated {N a b : Nat} {α : Type} (hab : a + b = 128) (x : (⟨2, ![N, 128]⟩ : Shape).Idx → α)
    (h1 : (⟨2, ![N, 128]⟩ : Shape).Slices ![0, b] ⟨2, ![N, a]⟩)
    (h2 : (⟨2, ![N, 128]⟩ : Shape).Slices ![0, 0] ⟨2, ![N, b]⟩)
    (hc : Shape.Concatenates [⟨2, ![N, a]⟩, ⟨2, ![N, b]⟩] ⟨2, ![N, 128]⟩ (1 : Fin 2)) (t : Fin N) (j : Fin 128) :
    concatenate ⟨2, ![N, 128]⟩ (1 : Fin 2)
      [⟨⟨2, ![N, a]⟩, extractStridedSlice ⟨2, ![N, a]⟩ ![0, b] x h1⟩,
       ⟨⟨2, ![N, b]⟩, extractStridedSlice ⟨2, ![N, b]⟩ ![0, 0] x h2⟩] hc (ix2 t j) = x (ix2 t (rot b j)) := by
  have hj := j.isLt
  by_cases h : j.val < a
  · rw [concatenate_pair_apply_left (s₁ := ⟨2, ![N, a]⟩) (s₂ := ⟨2, ![N, b]⟩) (1 : Fin 2) _ _ hc (ix2 t j) rfl
      (ix2 t (⟨j.val, h⟩ : Fin a))
      (fun d => match d with | ⟨0, _⟩ => rfl | ⟨1, _⟩ => rfl)]
    refine extractStridedSlice_apply ![0, b] x h1 _ _ fun d => match d with
      | ⟨0, _⟩ => by show t.val = 0 + t.val; omega
      | ⟨1, _⟩ => by show (j.val + b) % 128 = b + j.val; rw [Nat.mod_eq_of_lt (by omega)]; omega
  · rw [concatenate_pair_apply_right (s₁ := ⟨2, ![N, a]⟩) (s₂ := ⟨2, ![N, b]⟩) (1 : Fin 2) _ _ hc (ix2 t j) rfl rfl
      (ix2 t (⟨j.val - a, by omega⟩ : Fin b))
      (fun d hd => match d with | ⟨0, _⟩ => rfl | ⟨1, _⟩ => absurd rfl hd)
      (by show j.val - a + a = j.val; omega)]
    refine extractStridedSlice_apply ![0, 0] x h2 _ _ fun d => match d with
      | ⟨0, _⟩ => by show t.val = 0 + t.val; omega
      | ⟨1, _⟩ => by show (j.val + b) % 128 = 0 + (j.val - a); omega

/-- The one-row mask of the positions with bit `h` set, spread over all rows, read at an index. -/
theorem mask_apply {N : Nat} (h : BitVec 32) (hi : (⟨2, ![1, 128]⟩ : Shape).Iotas .tc 32 [1])
    (hc : (⟨2, ![1, 128]⟩ : Shape).ShapeCasts ⟨2, ![1, 128]⟩) (hb : (⟨2, ![1, 128]⟩ : Shape).Broadcasts ⟨2, ![N, 128]⟩)
    (t : Fin N) (j : Fin 128) :
    broadcastTo ⟨2, ![N, 128]⟩ (shapeCast ⟨2, ![1, 128]⟩ (cmpi .ne (andi (iota .tc ⟨2, ![1, 128]⟩ 32 [1] hi)
      (broadcast ⟨2, ![1, 128]⟩ h)) (broadcast ⟨2, ![1, 128]⟩ 0#32)) hc) hb (ix2 t j)
      = IntOp.cmpi .ne (IntOp.andi (BitVec.ofNat 32 j.val) h) 0#32 := by
  rw [shapeCast_self]
  rw [broadcastTo_apply _ hb (ix2 t j) (ix2 (0 : Fin 1) j) (fun d => match d with | ⟨0, _⟩ => rfl | ⟨1, _⟩ => rfl)]
  show IntOp.cmpi .ne (IntOp.andi (iota .tc ⟨2, ![1, 128]⟩ 32 [1] hi (ix2 (0 : Fin 1) j)) h) 0#32 = _
  rw [iota_single_apply]

/-- The kernel's stage on the rows of a block: rotate by `h` either way, choose by the bit, subtract or add. `b` is
    the other rotation, `128 - h`. -/
theorem rolled_stage {N h b : Nat} (hhb : h + b = 128) (w : BitVec 32)
    (hw : ∀ j : Fin 128, IntOp.cmpi .ne (IntOp.andi (BitVec.ofNat 32 j.val) w) 0#32
      = if (j.val / h) % 2 = 1 then 1#1 else 0#1)
    (x : FVec Ideal ⟨2, ![N, 128]⟩ .f32) (m m' : IVec ⟨2, ![N, 128]⟩ 1)
    (hm : ∀ t j, m (ix2 t j) = IntOp.cmpi .ne (IntOp.andi (BitVec.ofNat 32 j.val) w) 0#32)
    (hm' : ∀ t j, m' (ix2 t j) = IntOp.cmpi .ne (IntOp.andi (BitVec.ofNat 32 j.val) w) 0#32)
    (h1 : (⟨2, ![N, 128]⟩ : Shape).Slices ![0, b] ⟨2, ![N, h]⟩)
    (h2 : (⟨2, ![N, 128]⟩ : Shape).Slices ![0, 0] ⟨2, ![N, b]⟩)
    (hc : Shape.Concatenates [⟨2, ![N, h]⟩, ⟨2, ![N, b]⟩] ⟨2, ![N, 128]⟩ (1 : Fin 2))
    (h3 : (⟨2, ![N, 128]⟩ : Shape).Slices ![0, h] ⟨2, ![N, b]⟩)
    (h4 : (⟨2, ![N, 128]⟩ : Shape).Slices ![0, 0] ⟨2, ![N, h]⟩)
    (hc' : Shape.Concatenates [⟨2, ![N, b]⟩, ⟨2, ![N, h]⟩] ⟨2, ![N, 128]⟩ (1 : Fin 2))
    (p : FVec Ideal ⟨2, ![N, 128]⟩ .f32)
    (hp : p = select m
      (concatenate ⟨2, ![N, 128]⟩ (1 : Fin 2)
        [⟨⟨2, ![N, h]⟩, extractStridedSlice ⟨2, ![N, h]⟩ ![0, b] x h1⟩,
         ⟨⟨2, ![N, b]⟩, extractStridedSlice ⟨2, ![N, b]⟩ ![0, 0] x h2⟩] hc)
      (concatenate ⟨2, ![N, 128]⟩ (1 : Fin 2)
        [⟨⟨2, ![N, b]⟩, extractStridedSlice ⟨2, ![N, b]⟩ ![0, h] x h3⟩,
         ⟨⟨2, ![N, h]⟩, extractStridedSlice ⟨2, ![N, h]⟩ ![0, 0] x h4⟩] hc')) (t : Fin N) :
    row (select m' (subf p x) (addf x p) : FVec Ideal ⟨2, ![N, 128]⟩ .f32) t = bf h (row x t) := by
  funext j
  have hb : b = 128 - h := by omega
  subst hp
  show Scalar.select (m' (ix2 t j)) (Scalar.select (m (ix2 t j)) _ _ - x (ix2 t j)) (x (ix2 t j) + Scalar.select (m (ix2 t j)) _ _) = _
  rw [hm, hm', hw, rotated hhb, rotated (by omega)]
  unfold bf
  by_cases hj : (j.val / h) % 2 = 1
  · rw [if_pos hj, if_pos hj, select_one, select_one, hb]; rfl
  · rw [if_neg hj, if_neg hj, select_zero, select_zero]; rfl

/-- The reference's stage on the rows of an array: the row as `m` pairs of runs of length `h`, the sums of the pairs
    before their differences. -/
theorem paired_stage {N m h : Nat} (hm : m * (2 * h) = 128) (hh : 0 < h) (x y : FVec Ideal ⟨2, ![N, 128]⟩ .f32)
    (c0 : (⟨2, ![N, 128]⟩ : Shape).ShapeCasts ⟨4, ![N, m, 2, h]⟩)
    (s0 : (⟨4, ![N, m, 2, h]⟩ : Shape).Slices ![0, 0, 0, 0] ⟨4, ![N, m, 1, h]⟩)
    (s1 : (⟨4, ![N, m, 2, h]⟩ : Shape).Slices ![0, 0, 1, 0] ⟨4, ![N, m, 1, h]⟩)
    (c1 : (⟨4, ![N, m, 1, h]⟩ : Shape).ShapeCasts ⟨3, ![N, m, h]⟩)
    (cc : Shape.Concatenates [⟨3, ![N, m, h]⟩, ⟨3, ![N, m, h]⟩] ⟨3, ![N, m, 2 * h]⟩ (2 : Fin 3))
    (c2 : (⟨3, ![N, m, 2 * h]⟩ : Shape).ShapeCasts ⟨2, ![N, 128]⟩)
    (u v : FVec Ideal ⟨3, ![N, m, h]⟩ .f32)
    (hu : u = shapeCast ⟨3, ![N, m, h]⟩ (extractStridedSlice ⟨4, ![N, m, 1, h]⟩ ![0, 0, 0, 0]
      (shapeCast ⟨4, ![N, m, 2, h]⟩ x c0) s0) c1)
    (hv : v = shapeCast ⟨3, ![N, m, h]⟩ (extractStridedSlice ⟨4, ![N, m, 1, h]⟩ ![0, 0, 1, 0]
      (shapeCast ⟨4, ![N, m, 2, h]⟩ x c0) s1) c1)
    (hy : y = shapeCast ⟨2, ![N, 128]⟩ (concatenate ⟨3, ![N, m, 2 * h]⟩ (2 : Fin 3)
      [⟨⟨3, ![N, m, h]⟩, addf u v⟩, ⟨⟨3, ![N, m, h]⟩, subf u v⟩] cc) c2) (t : Fin N) :
    row y t = bf h (row x t) := by
  funext j
  have hj := j.isLt
  have split : ∀ (q : Fin m) (s : Fin h) (r : Fin 2), q.val * (2 * h) + (r.val * h + s.val) < 128 := by
    intro q s r
    have hq : (q.val + 1) * (2 * h) ≤ m * (2 * h) := Nat.mul_le_mul_right _ q.isLt
    have hr : r.val * h ≤ 1 * h := Nat.mul_le_mul_right _ (by omega)
    have hs := s.isLt
    rw [Nat.add_mul] at hq
    omega
  have read : ∀ (q : Fin m) (s : Fin h) (r : Fin 2),
      shapeCast ⟨4, ![N, m, 2, h]⟩ x c0 (ix4 t q r s) = x (ix2 t ⟨q.val * (2 * h) + (r.val * h + s.val), split q s r⟩) := by
    intro q s r
    refine shapeCast_apply x c0 _ _ ?_
    rw [Shape.rowMajor_val_two, Shape.rowMajor_val_four]
    show t.val * 128 + (q.val * (2 * h) + (r.val * h + s.val)) = ((t.val * m + q.val) * 2 + r.val) * h + s.val
    rw [← hm]; ring
  have eu : ∀ (q : Fin m) (s : Fin h), u (ix3 t q s) = x (ix2 t ⟨q.val * (2 * h) + (0 * h + s.val), split q s 0⟩) := by
    intro q s
    rw [hu, shapeCast_apply _ c1 (ix3 t q s) (ix4 t q (0 : Fin 1) s) (by
      rw [Shape.rowMajor_val_three, Shape.rowMajor_val_four]
      show ((t.val * m + q.val) * 1 + 0) * h + s.val = (t.val * m + q.val) * h + s.val
      ring), extractStridedSlice_apply _ _ s0 _ (ix4 t q (0 : Fin 2) s) (fun d => match d with
        | ⟨0, _⟩ => by show t.val = 0 + t.val; omega
        | ⟨1, _⟩ => by show q.val = 0 + q.val; omega
        | ⟨2, _⟩ => rfl
        | ⟨3, _⟩ => by show s.val = 0 + s.val; omega), read]
    rfl
  have ev : ∀ (q : Fin m) (s : Fin h), v (ix3 t q s) = x (ix2 t ⟨q.val * (2 * h) + (1 * h + s.val), split q s 1⟩) := by
    intro q s
    rw [hv, shapeCast_apply _ c1 (ix3 t q s) (ix4 t q (0 : Fin 1) s) (by
      rw [Shape.rowMajor_val_three, Shape.rowMajor_val_four]
      show ((t.val * m + q.val) * 1 + 0) * h + s.val = (t.val * m + q.val) * h + s.val
      ring), extractStridedSlice_apply _ _ s1 _ (ix4 t q (1 : Fin 2) s) (fun d => match d with
        | ⟨0, _⟩ => by show t.val = 0 + t.val; omega
        | ⟨1, _⟩ => by show q.val = 0 + q.val; omega
        | ⟨2, _⟩ => rfl
        | ⟨3, _⟩ => by show s.val = 0 + s.val; omega), read]
    rfl
  have hjm : j.val < m * (2 * h) := by rw [hm]; exact hj
  have hq : j.val / (2 * h) < m := Nat.div_lt_of_lt_mul (by rw [Nat.mul_comm]; exact hjm)
  have hr : j.val % (2 * h) < 2 * h := Nat.mod_lt _ (by omega)
  have hdm : j.val / (2 * h) * (2 * h) + j.val % (2 * h) = j.val := Nat.div_add_mod' _ _
  have hdiv : (j.val / h) % 2 = j.val % (2 * h) / h := by
    rw [Nat.mod_mul_left_div_self]
  have hm1 : 1 * (2 * h) ≤ 128 := by
    rw [← hm]; refine Nat.mul_le_mul_right _ ?_
    rcases Nat.eq_zero_or_pos m with h0 | h0
    · rw [h0] at hm; omega
    · exact h0
  rw [row_apply, hy, shapeCast_apply _ c2 (ix2 t j) (ix3 t (⟨_, hq⟩ : Fin m) (⟨_, hr⟩ : Fin (2 * h))) (by
    rw [Shape.rowMajor_val_two, Shape.rowMajor_val_three]
    show (t.val * m + j.val / (2 * h)) * (2 * h) + j.val % (2 * h) = t.val * 128 + j.val
    rw [Nat.add_mul, Nat.add_assoc, hdm, Nat.mul_assoc, hm])]
  unfold bf
  rw [hdiv]
  by_cases hlt : j.val % (2 * h) < h
  · rw [if_neg (by rw [Nat.div_eq_of_lt hlt]; decide),
      concatenate_pair_apply_left (t := ⟨3, ![N, m, 2 * h]⟩) (s₁ := ⟨3, ![N, m, h]⟩) (s₂ := ⟨3, ![N, m, h]⟩) (2 : Fin 3) _ _ cc _ rfl (ix3 t (⟨_, hq⟩ : Fin m) (⟨_, hlt⟩ : Fin h))
        (fun d => match d with | ⟨0, _⟩ => rfl | ⟨1, _⟩ => rfl | ⟨2, _⟩ => rfl), addf_apply, eu, ev]
    have e0 : (⟨j.val / (2 * h) * (2 * h) + (0 * h + j.val % (2 * h)), split ⟨_, hq⟩ ⟨_, hlt⟩ 0⟩ : Fin 128) = j :=
      Fin.ext (by show j.val / (2 * h) * (2 * h) + (0 * h + j.val % (2 * h)) = j.val; omega)
    have e1 : (⟨j.val / (2 * h) * (2 * h) + (1 * h + j.val % (2 * h)), split ⟨_, hq⟩ ⟨_, hlt⟩ 1⟩ : Fin 128) = rot h j := by
      have hb := split ⟨_, hq⟩ ⟨_, hlt⟩ 1
      refine Fin.ext ?_
      show j.val / (2 * h) * (2 * h) + (1 * h + j.val % (2 * h)) = (j.val + h) % 128
      have hb' : j.val / (2 * h) * (2 * h) + (1 * h + j.val % (2 * h)) < 128 := hb
      clear hb e0
      have e : j.val / (2 * h) * (2 * h) + (1 * h + j.val % (2 * h)) = j.val + h := by omega
      rw [e] at hb'
      rw [e, Nat.mod_eq_of_lt hb']
    rw [e0, e1]; rfl
  · have hge : h ≤ j.val % (2 * h) := by omega
    have hlt2 : j.val % (2 * h) - h < h := by omega
    have hone : j.val % (2 * h) / h = 1 := by
      rw [Nat.div_eq_iff hh]; omega
    rw [if_pos hone,
      concatenate_pair_apply_right (t := ⟨3, ![N, m, 2 * h]⟩) (s₁ := ⟨3, ![N, m, h]⟩) (s₂ := ⟨3, ![N, m, h]⟩) (2 : Fin 3) _ _ cc _ rfl rfl (ix3 t (⟨_, hq⟩ : Fin m) (⟨_, hlt2⟩ : Fin h))
        (fun d hd => match d with | ⟨0, _⟩ => rfl | ⟨1, _⟩ => rfl | ⟨2, _⟩ => absurd rfl hd)
        (by show j.val % (2 * h) - h + h = j.val % (2 * h); omega), subf_apply, eu, ev]
    have e0 : (⟨j.val / (2 * h) * (2 * h) + (0 * h + (j.val % (2 * h) - h)), split ⟨_, hq⟩ ⟨_, hlt2⟩ 0⟩ : Fin 128)
        = rot (128 - h) j := by
      refine Fin.ext ?_
      show j.val / (2 * h) * (2 * h) + (0 * h + (j.val % (2 * h) - h)) = (j.val + (128 - h)) % 128
      omega
    have e1 : (⟨j.val / (2 * h) * (2 * h) + (1 * h + (j.val % (2 * h) - h)), split ⟨_, hq⟩ ⟨_, hlt2⟩ 1⟩ : Fin 128) = j :=
      Fin.ext (by show j.val / (2 * h) * (2 * h) + (1 * h + (j.val % (2 * h) - h)) = j.val; omega)
    rw [e0, e1]; rfl

end Cert.Rows
-- ==== Proof.KeyRow.lean ====
/-
  One row of the keys, as a function of the row before the rotation and the row of cosines and sines: the rotation of
  the first 64 entries, the Walsh–Hadamard transform, its scale, the row's quantisation scale and the quotient by it.
  Both programs compute these rows; this file states them apart from either.
-/
module

public import proofs.«01_k».proof.Proof.Butterfly
public import Idealize.ShloMosaic.PureOps.Ideal.Laws
public import Idealize.ShloMosaic.Lib.IdealHost

@[expose] public section

open Idealize.ShloMosaic Idealize.ShloMosaic.ValueIdx

noncomputable section

namespace Cert.Rows

/-- The rotary embedding of a row: entries 0–31 and 32–63 are the two halves, the others stay. -/
def rope (x : Fin 128 → EReal) (c : Fin 64 → EReal) : Fin 128 → EReal := fun j =>
  if h : j.val < 32 then x j * c ⟨j.val, by omega⟩ - x (rot 32 j) * c ⟨j.val + 32, by omega⟩
  else if h' : j.val < 64 then x j * c ⟨j.val - 32, by omega⟩ + x (rot 96 j) * c ⟨j.val, h'⟩
  else x j

/-- The Walsh–Hadamard transform of a row, before its scale. -/
def fwht (x : Fin 128 → EReal) : Fin 128 → EReal := bf 64 (bf 32 (bf 16 (bf 8 (bf 4 (bf 2 (bf 1 x))))))

/-- The rotated, transformed and scaled row. -/
def turned (x : Fin 128 → EReal) (c : Fin 64 → EReal) : Fin 128 → EReal := fun j =>
  fwht (rope x c) j * Ideal.ofBits .f32 0x3DB504F3#32

/-- A row's quantisation scale: its greatest magnitude, at least the floor, over 448. -/
def scaleOf (y : Fin 128 → EReal) : EReal :=
  Ideal.div (max ((Finset.univ : Finset (Fin 128)).fold max (Ideal.ofBits .f32 0xFF800000#32)
    fun j => FloatOps.hostAbsf (F := Ideal) (φ := .f32) (y j)) (Ideal.ofBits .f32 0x38D1B717#32))
    (Ideal.ofBits .f32 0x43E00000#32)

/-- A butterfly stage depends on the row alone. -/
theorem bf_congr (h : Nat) {x y : Fin 128 → EReal} (e : x = y) : bf h x = bf h y := by rw [e]

/-- Four pieces of 32 columns joined, read at an index. -/
theorem four_apply {N : Nat} {α : Type} (a b c d : (⟨2, ![N, 32]⟩ : Shape).Idx → α)
    (h : Shape.Concatenates [⟨2, ![N, 32]⟩, ⟨2, ![N, 32]⟩, ⟨2, ![N, 32]⟩, ⟨2, ![N, 32]⟩] ⟨2, ![N, 128]⟩ (1 : Fin 2))
    (t : Fin N) (j : Fin 128) :
    concatenate ⟨2, ![N, 128]⟩ (1 : Fin 2) [⟨⟨2, ![N, 32]⟩, a⟩, ⟨⟨2, ![N, 32]⟩, b⟩, ⟨⟨2, ![N, 32]⟩, c⟩, ⟨⟨2, ![N, 32]⟩, d⟩]
      h (ix2 t j)
      = if h0 : j.val < 32 then a (ix2 t ⟨j.val, h0⟩)
        else if h1 : j.val < 64 then b (ix2 t ⟨j.val - 32, by omega⟩)
        else if h2 : j.val < 96 then c (ix2 t ⟨j.val - 64, by omega⟩)
        else d (ix2 t ⟨j.val - 96, by omega⟩) := by
  have hj := j.isLt
  have step : ∀ (k : Nat) (hk : k < 4) (x : (⟨2, ![N, 32]⟩ : Shape).Idx → α)
      (_ : ([⟨⟨2, ![N, 32]⟩, a⟩, ⟨⟨2, ![N, 32]⟩, b⟩, ⟨⟨2, ![N, 32]⟩, c⟩, ⟨⟨2, ![N, 32]⟩, d⟩] :
        List ((s : Shape) × (s.Idx → α)))[k] = ⟨⟨2, ![N, 32]⟩, x⟩) (q : Fin 32) (_ : 32 * k + q.val = j.val),
      concatenate ⟨2, ![N, 128]⟩ (1 : Fin 2)
        [⟨⟨2, ![N, 32]⟩, a⟩, ⟨⟨2, ![N, 32]⟩, b⟩, ⟨⟨2, ![N, 32]⟩, c⟩, ⟨⟨2, ![N, 32]⟩, d⟩] h (ix2 t j) = x (ix2 t q) := by
    intro k hk x hx q hq
    refine concatenate_apply_piece (t := ⟨2, ![N, 128]⟩) (1 : Fin 2)
      [⟨⟨2, ![N, 32]⟩, a⟩, ⟨⟨2, ![N, 32]⟩, b⟩, ⟨⟨2, ![N, 32]⟩, c⟩, ⟨⟨2, ![N, 32]⟩, d⟩] h (ix2 t j) k hk ⟨2, ![N, 32]⟩ x hx rfl (32 * k) ?_
      (ix2 t q) (fun e he => match e with | ⟨0, _⟩ => rfl | ⟨1, _⟩ => absurd rfl he) hq
    interval_cases k <;> rfl
  by_cases h0 : j.val < 32
  · rw [dif_pos h0]; exact step 0 (by decide) a rfl ⟨j.val, h0⟩ (by simp)
  · rw [dif_neg h0]
    by_cases h1 : j.val < 64
    · rw [dif_pos h1]; exact step 1 (by decide) b rfl ⟨j.val - 32, by omega⟩ (by show 32 * 1 + (j.val - 32) = j.val; omega)
    · rw [dif_neg h1]
      by_cases h2 : j.val < 96
      · rw [dif_pos h2]; exact step 2 (by decide) c rfl ⟨j.val - 64, by omega⟩ (by show 32 * 2 + (j.val - 64) = j.val; omega)
      · rw [dif_neg h2]; exact step 3 (by decide) d rfl ⟨j.val - 96, by omega⟩ (by show 32 * 3 + (j.val - 96) = j.val; omega)

/-- Three pieces of 32, 32 and 64 columns joined, read at an index. -/
theorem three_apply {N : Nat} {α : Type} (a b : (⟨2, ![N, 32]⟩ : Shape).Idx → α) (c : (⟨2, ![N, 64]⟩ : Shape).Idx → α)
    (h : Shape.Concatenates [⟨2, ![N, 32]⟩, ⟨2, ![N, 32]⟩, ⟨2, ![N, 64]⟩] ⟨2, ![N, 128]⟩ (1 : Fin 2))
    (t : Fin N) (j : Fin 128) :
    concatenate ⟨2, ![N, 128]⟩ (1 : Fin 2) [⟨⟨2, ![N, 32]⟩, a⟩, ⟨⟨2, ![N, 32]⟩, b⟩, ⟨⟨2, ![N, 64]⟩, c⟩] h (ix2 t j)
      = if h0 : j.val < 32 then a (ix2 t ⟨j.val, h0⟩)
        else if h1 : j.val < 64 then b (ix2 t ⟨j.val - 32, by omega⟩)
        else c (ix2 t ⟨j.val - 64, by omega⟩) := by
  have hj := j.isLt
  have step : ∀ (n k : Nat) (hk : k < 3) (x : (⟨2, ![N, n]⟩ : Shape).Idx → α)
      (_ : ([⟨⟨2, ![N, 32]⟩, a⟩, ⟨⟨2, ![N, 32]⟩, b⟩, ⟨⟨2, ![N, 64]⟩, c⟩] :
        List ((s : Shape) × (s.Idx → α)))[k] = ⟨⟨2, ![N, n]⟩, x⟩) (q : Fin n) (_ : 32 * k + q.val = j.val),
      concatenate ⟨2, ![N, 128]⟩ (1 : Fin 2)
        [⟨⟨2, ![N, 32]⟩, a⟩, ⟨⟨2, ![N, 32]⟩, b⟩, ⟨⟨2, ![N, 64]⟩, c⟩] h (ix2 t j) = x (ix2 t q) := by
    intro n k hk x hx q hq
    refine concatenate_apply_piece (t := ⟨2, ![N, 128]⟩) (1 : Fin 2)
      [⟨⟨2, ![N, 32]⟩, a⟩, ⟨⟨2, ![N, 32]⟩, b⟩, ⟨⟨2, ![N, 64]⟩, c⟩] h (ix2 t j) k hk ⟨2, ![N, n]⟩ x hx rfl (32 * k) ?_
      (ix2 t q) (fun e he => match e with | ⟨0, _⟩ => rfl | ⟨1, _⟩ => absurd rfl he) hq
    interval_cases k <;> rfl
  by_cases h0 : j.val < 32
  · rw [dif_pos h0]; exact step 32 0 (by decide) a rfl ⟨j.val, h0⟩ (by simp)
  · rw [dif_neg h0]
    by_cases h1 : j.val < 64
    · rw [dif_pos h1]; exact step 32 1 (by decide) b rfl ⟨j.val - 32, by omega⟩ (by show 32 * 1 + (j.val - 32) = j.val; omega)
    · rw [dif_neg h1]
      exact step 64 2 (by decide) c rfl ⟨j.val - 64, by omega⟩ (by show 32 * 2 + (j.val - 64) = j.val; omega)

/-- The source index over entry `t` of a reduction of the rows, at column `k`. -/
theorem lift_row {N M : Nat} (h : (⟨2, ![N, M]⟩ : Shape).Reduces [(1 : Fin 2)] ⟨1, ![N]⟩) (t : Fin N) (k : Fin M) :
    h.lift (ix1 t) k = ix2 t k := by
  funext c
  apply Fin.ext
  fin_cases c <;> rfl

/-- A block's greatest entries of its rows, as folds over the columns. -/
theorem rowMax {N M : Nat} (y : FVec Ideal ⟨2, ![N, M]⟩ .f32) (acc : BitVec (FTy.f32).bits)
    (h : (⟨2, ![N, M]⟩ : Shape).Reduces [(1 : Fin 2)] ⟨1, ![N]⟩) (hφ : FKind.Formats .f32)
    (hacc : acc = FKind.maximumf.neutral .f32 hφ) (t : Fin N) :
    multiReduction .maximumf [(1 : Fin 2)] ⟨1, ![N]⟩ y acc h hφ hacc (ix1 t)
      = (Finset.univ : Finset (Fin M)).fold max (Ideal.ofBits .f32 acc) fun j => y (ix2 t j) := by
  rw [Ideal.multiReduction_maximumf_single]
  exact congrArg (fun f => Finset.fold max (Ideal.ofBits .f32 acc) f (Finset.univ : Finset (Fin M)))
    (funext fun k => congrArg y (lift_row h t k))

/-- The host's greatest entries of an array's rows, as folds over the columns. -/
theorem hostRowMax {N M : Nat} {u : Shape} (y : (⟨2, ![N, M]⟩ : Shape).Idx → Ideal .f32) (init : u.Idx → Ideal .f32)
    (h' : (⟨2, ![N, M]⟩ : Shape).ReducesTo [(1 : Fin 2)] ⟨1, ![N]⟩)
    (h : (⟨2, ![N, M]⟩ : Shape).Reduces [(1 : Fin 2)] ⟨1, ![N]⟩) (hu : 0 < u.numel) (t : Fin N) :
    Host.reduce FloatOps.maximumf y init h' hu (ix1 t)
      = (Finset.univ : Finset (Fin M)).fold max (init (Shape.Idx.first hu)) fun j => y (ix2 t j) := by
  rw [Host.reduce_eq_fold_single FloatOps.maximumf y init h' h hu]
  exact congrArg (fun f => Finset.fold max (init (Shape.Idx.first hu)) f (Finset.univ : Finset (Fin M)))
    (funext fun k => congrArg y (lift_row h t k))

/-- The rotation written with half rows and joined pieces, read as `rope`. -/
theorem halves_row {N : Nat} (x : (⟨2, ![N, 128]⟩ : Shape).Idx → EReal) (c : (⟨2, ![N, 64]⟩ : Shape).Idx → EReal)
    (hx0 : (⟨2, ![N, 128]⟩ : Shape).Slices ![0, 0] ⟨2, ![N, 32]⟩) (hx1 : (⟨2, ![N, 128]⟩ : Shape).Slices ![0, 32] ⟨2, ![N, 32]⟩)
    (hx2 : (⟨2, ![N, 128]⟩ : Shape).Slices ![0, 64] ⟨2, ![N, 64]⟩)
    (hc0 : (⟨2, ![N, 64]⟩ : Shape).Slices ![0, 0] ⟨2, ![N, 32]⟩) (hc1 : (⟨2, ![N, 64]⟩ : Shape).Slices ![0, 32] ⟨2, ![N, 32]⟩)
    (y : (⟨2, ![N, 128]⟩ : Shape).Idx → EReal) (u v : (⟨2, ![N, 32]⟩ : Shape).Idx → EReal)
    (h : Shape.Concatenates [⟨2, ![N, 32]⟩, ⟨2, ![N, 32]⟩, ⟨2, ![N, 64]⟩] ⟨2, ![N, 128]⟩ (1 : Fin 2))
    (hu : ∀ i, u i = extractStridedSlice _ ![0, 0] x hx0 i * extractStridedSlice _ ![0, 0] c hc0 i
      - extractStridedSlice _ ![0, 32] x hx1 i * extractStridedSlice _ ![0, 32] c hc1 i)
    (hv : ∀ i, v i = extractStridedSlice _ ![0, 32] x hx1 i * extractStridedSlice _ ![0, 0] c hc0 i
      + extractStridedSlice _ ![0, 0] x hx0 i * extractStridedSlice _ ![0, 32] c hc1 i)
    (hy : y = concatenate ⟨2, ![N, 128]⟩ (1 : Fin 2) [⟨⟨2, ![N, 32]⟩, u⟩, ⟨⟨2, ![N, 32]⟩, v⟩,
      ⟨⟨2, ![N, 64]⟩, extractStridedSlice _ ![0, 64] x hx2⟩] h) (t : Fin N) :
    row y t = rope (row x t) fun j => c (ix2 t j) := by
  subst hy
  funext j
  have hj := j.isLt
  have left : ∀ q : Fin 32, extractStridedSlice _ ![0, 0] x hx0 (ix2 t q) = x (ix2 t ⟨q.val, by omega⟩) := fun q =>
    extractStridedSlice_apply ![0, 0] x _ _ _ fun d => match d with
      | ⟨0, _⟩ => by show t.val = 0 + t.val; omega
      | ⟨1, _⟩ => by show q.val = 0 + q.val; omega
  have right : ∀ q : Fin 32, extractStridedSlice _ ![0, 32] x hx1 (ix2 t q) = x (ix2 t ⟨q.val + 32, by omega⟩) := fun q =>
    extractStridedSlice_apply ![0, 32] x _ _ _ fun d => match d with
      | ⟨0, _⟩ => by show t.val = 0 + t.val; omega
      | ⟨1, _⟩ => by show q.val + 32 = 32 + q.val; omega
  have cosq : ∀ q : Fin 32, extractStridedSlice _ ![0, 0] c hc0 (ix2 t q) = c (ix2 t ⟨q.val, by omega⟩) := fun q =>
    extractStridedSlice_apply ![0, 0] c _ _ _ fun d => match d with
      | ⟨0, _⟩ => by show t.val = 0 + t.val; omega
      | ⟨1, _⟩ => by show q.val = 0 + q.val; omega
  have sinq : ∀ q : Fin 32, extractStridedSlice _ ![0, 32] c hc1 (ix2 t q) = c (ix2 t ⟨q.val + 32, by omega⟩) := fun q =>
    extractStridedSlice_apply ![0, 32] c _ _ _ fun d => match d with
      | ⟨0, _⟩ => by show t.val = 0 + t.val; omega
      | ⟨1, _⟩ => by show q.val + 32 = 32 + q.val; omega
  rw [row_apply, three_apply]
  unfold rope
  by_cases h0 : j.val < 32
  · rw [dif_pos h0, dif_pos h0, hu, left, right, cosq, sinq, row_apply, row_apply]
    have e : rot 32 j = ⟨j.val + 32, by omega⟩ := Fin.ext (Nat.mod_eq_of_lt (by omega))
    rw [e]
  · rw [dif_neg h0, dif_neg h0]
    by_cases h1 : j.val < 64
    · rw [dif_pos h1, dif_pos h1, hv, left, right, cosq, sinq, row_apply, row_apply]
      have e : rot 96 j = ⟨j.val - 32, by omega⟩ := Fin.ext (by show (j.val + 96) % 128 = j.val - 32; omega)
      have e2 : (⟨j.val - 32 + 32, by omega⟩ : Fin 128) = j := Fin.ext (by show j.val - 32 + 32 = j.val; omega)
      have e3 : (⟨j.val - 32 + 32, by omega⟩ : Fin 64) = ⟨j.val, h1⟩ := Fin.ext (by show j.val - 32 + 32 = j.val; omega)
      rw [e, e2, e3]
    · rw [dif_neg h1, dif_neg h1]
      exact extractStridedSlice_apply ![0, 64] x _ _ _ fun d => match d with
      | ⟨0, _⟩ => by show t.val = 0 + t.val; omega
      | ⟨1, _⟩ => by show j.val = 64 + (j.val - 64); omega

end Cert.Rows
-- ==== Proof.KeyKernel.lean ====
/-
  What one point of the first region stores, row by row: the block's keys and scales are the rows of `KeyRow.lean`.
-/
module

public import proofs.«01_k».proof.Proof.Gen.KernelIdeal.Skeleton
public import proofs.«01_k».proof.Proof.KeyRow

@[expose] public section

open Idealize.ShloMosaic Idealize.ShloMosaic.ValueIdx Cert.KernelIdeal Cert.KernelIdeal.Gen Cert.Rows

noncomputable section

namespace Cert.KeyKernel

/-- The bit of weight `h` of a lane number below 128, for each of the seven weights: `(h, j) ↦ j / h` odd. -/
theorem bit1 : ∀ j : Fin 128, IntOp.cmpi .ne (IntOp.andi (BitVec.ofNat 32 j.val) 1#32) 0#32
    = if (j.val / 1) % 2 = 1 then 1#1 else 0#1 := by decide
/-- The same for weight 2. -/
theorem bit2 : ∀ j : Fin 128, IntOp.cmpi .ne (IntOp.andi (BitVec.ofNat 32 j.val) 2#32) 0#32
    = if (j.val / 2) % 2 = 1 then 1#1 else 0#1 := by decide
/-- The same for weight 4. -/
theorem bit4 : ∀ j : Fin 128, IntOp.cmpi .ne (IntOp.andi (BitVec.ofNat 32 j.val) 4#32) 0#32
    = if (j.val / 4) % 2 = 1 then 1#1 else 0#1 := by decide
/-- The same for weight 8. -/
theorem bit8 : ∀ j : Fin 128, IntOp.cmpi .ne (IntOp.andi (BitVec.ofNat 32 j.val) 8#32) 0#32
    = if (j.val / 8) % 2 = 1 then 1#1 else 0#1 := by decide
/-- The same for weight 16. -/
theorem bit16 : ∀ j : Fin 128, IntOp.cmpi .ne (IntOp.andi (BitVec.ofNat 32 j.val) 16#32) 0#32
    = if (j.val / 16) % 2 = 1 then 1#1 else 0#1 := by decide
/-- The same for weight 32. -/
theorem bit32 : ∀ j : Fin 128, IntOp.cmpi .ne (IntOp.andi (BitVec.ofNat 32 j.val) 32#32) 0#32
    = if (j.val / 32) % 2 = 1 then 1#1 else 0#1 := by decide
/-- The same for weight 64. -/
theorem bit64 : ∀ j : Fin 128, IntOp.cmpi .ne (IntOp.andi (BitVec.ofNat 32 j.val) 64#32) 0#32
    = if (j.val / 64) % 2 = 1 then 1#1 else 0#1 := by decide

/-- The first payload: the rotation, then the stage of run length 1. -/
theorem pay4_row (v0 : Vec Ideal S256x128 .f32) (v2 : Vec Ideal S256x64 .f32) (t : Fin 256) :
    row (k0_pay4 v0 v2) t = bf 1 (rope (row v0 t) fun j => v2 (ix2 t j)) := by
  unfold k0_pay4
  dsimp only
  refine (rolled_stage (h := 1) (b := 127) rfl 1#32 bit1 _ _ _ (fun t j => mask_apply _ _ _ _ t j)
    (fun t j => mask_apply _ _ _ _ t j) _ _ _ _ _ _ _ rfl t).trans (bf_congr 1 (funext fun j => ?_))
  have hj := j.isLt
  rw [row_apply, addf_apply, mulf_apply, mulf_apply, select_apply, mask_apply, bit32, four_apply, four_apply,
    shapeCast_self, shapeCast_self, rotated (a := 32) (b := 96) rfl, rotated (a := 96) (b := 32) rfl]
  unfold rope
  by_cases h0 : j.val < 32
  · have hb : ¬ (j.val / 32) % 2 = 1 := by omega
    rw [dif_pos h0, dif_pos h0, dif_pos h0, if_neg hb, select_zero, subf_apply,
      extractStridedSlice_apply ![0, 0] v2 _ _ (ix2 t ⟨j.val, by omega⟩) (fun d => match d with
        | ⟨0, _⟩ => by show t.val = 0 + t.val; omega
        | ⟨1, _⟩ => by show j.val = 0 + j.val; omega),
      extractStridedSlice_apply ![0, 32] v2 _ _ (ix2 t ⟨j.val + 32, by omega⟩) (fun d => match d with
        | ⟨0, _⟩ => by show t.val = 0 + t.val; omega
        | ⟨1, _⟩ => by show j.val + 32 = 32 + j.val; omega)]
    show _ + _ * (Ideal.ofBits .f32 0x00000000#32 - _) = _
    rw [Ideal.ofBits_zero_f32, zero_sub, mul_neg, ← sub_eq_add_neg]
    rfl
  · rw [dif_neg h0, dif_neg h0, dif_neg h0]
    by_cases h1 : j.val < 64
    · have hb : (j.val / 32) % 2 = 1 := by omega
      rw [dif_pos h1, dif_pos h1, dif_pos h1, if_pos hb, select_one,
        extractStridedSlice_apply ![0, 0] v2 _ _ (ix2 t ⟨j.val - 32, by omega⟩) (fun d => match d with
          | ⟨0, _⟩ => by show t.val = 0 + t.val; omega
          | ⟨1, _⟩ => by show j.val - 32 = 0 + (j.val - 32); omega),
        extractStridedSlice_apply ![0, 32] v2 _ _ (ix2 t ⟨j.val, h1⟩) (fun d => match d with
          | ⟨0, _⟩ => by show t.val = 0 + t.val; omega
          | ⟨1, _⟩ => by show j.val = 32 + (j.val - 32); omega)]
      rfl
    · rw [dif_neg h1, dif_neg h1, dif_neg h1]
      have one : Scalar.ofBits (F := Ideal) .f32 0x3F800000#32 = (1 : EReal) := Ideal.ofBits_one_f32
      have zero : Scalar.ofBits (F := Ideal) .f32 0x00000000#32 = (0 : EReal) := Ideal.ofBits_zero_f32
      rw [one, zero]
      simp only [broadcast_apply, dite_eq_ite, ite_self]
      exact (congrArg₂ _ (mul_one _) (mul_zero _)).trans (add_zero _)

/-- The stages of run lengths 2 and 4. -/
theorem pay5_row (v : FVec Ideal S256x128 .f32) (t : Fin 256) : row (k0_pay5 v) t = bf 4 (bf 2 (row v t)) := by
  unfold k0_pay5
  dsimp only
  refine (rolled_stage (h := 4) (b := 124) rfl 4#32 bit4 _ _ _ (fun t j => mask_apply _ _ _ _ t j)
    (fun t j => mask_apply _ _ _ _ t j) _ _ _ _ _ _ _ rfl t).trans (bf_congr 4 ?_)
  exact rolled_stage (h := 2) (b := 126) rfl 2#32 bit2 _ _ _ (fun t j => mask_apply _ _ _ _ t j)
    (fun t j => mask_apply _ _ _ _ t j) _ _ _ _ _ _ _ rfl t

/-- The stages of run lengths 8, 16 and 32. -/
theorem pay10_row (v : FVec Ideal S256x128 .f32) (t : Fin 256) :
    row (k0_pay10 k0_pay6 (k0_pay8 v) (k0_pay9 v)) t = bf 32 (bf 16 (bf 8 (row (k0_pay5 v) t))) := by
  unfold k0_pay10 k0_pay8 k0_pay9
  dsimp only
  refine (rolled_stage (h := 32) (b := 96) rfl 32#32 bit32 _ _ _ (fun t j => mask_apply _ _ _ _ t j)
    (fun t j => mask_apply _ _ _ _ t j) _ _ _ _ _ _ _ rfl t).trans (bf_congr 32 ?_)
  refine (rolled_stage (h := 16) (b := 112) rfl 16#32 bit16 _ _ _ (fun t j => mask_apply _ _ _ _ t j)
    (fun t j => mask_apply _ _ _ _ t j) _ _ _ _ _ _ _ rfl t).trans (bf_congr 16 ?_)
  unfold k0_pay7 k0_pay6
  dsimp only
  exact rolled_stage (h := 8) (b := 120) rfl 8#32 bit8 _ _ _ (fun t j => mask_apply _ _ _ _ t j)
    (fun t j => mask_apply _ _ _ _ t j) _ _ _ _ _ _ _ rfl t

/-- The last stage and the scale. -/
theorem pay1_row (a : IVec S1x128 1) (v w : FVec Ideal S256x128 .f32) (t : Fin 256) (j : Fin 128) :
    k0_pay1 (k0_pay10 a v w) k0_pay11 (k0_pay12 a v w) (k0_pay13 a v w) k0_pay14 (ix2 t j)
      = bf 64 (row (k0_pay10 a v w) t) j * Ideal.ofBits .f32 0x3DB504F3#32 := by
  unfold k0_pay1
  rw [mulf_apply]
  refine congrArg (fun z : EReal => z * _) ?_
  unfold k0_pay12 k0_pay13 k0_pay14 k0_pay11
  dsimp only
  exact congrFun (rolled_stage (h := 64) (b := 64) rfl 64#32 bit64 _ _ _ (fun t j => mask_apply _ _ _ _ t j)
    (fun t j => mask_apply _ _ _ _ t j) _ _ _ _ _ _ _ rfl t) j

/-- The block's scaled rows, out of the two blocks read. -/
abbrev scaled (x0 : Vec Ideal S256x128 .f32) (x1 : Vec Ideal S256x64 .f32) : FVec Ideal S256x128 .f32 :=
  k0_pay1 (k0_pay10 k0_pay6 (k0_pay8 (k0_pay4 x0 x1)) (k0_pay9 (k0_pay4 x0 x1))) k0_pay11
    (k0_pay12 k0_pay6 (k0_pay8 (k0_pay4 x0 x1)) (k0_pay9 (k0_pay4 x0 x1)))
    (k0_pay13 k0_pay6 (k0_pay8 (k0_pay4 x0 x1)) (k0_pay9 (k0_pay4 x0 x1))) k0_pay14

/-- The rows stored, before the quotient, are the rotated, transformed and scaled rows of the block read. -/
theorem scaled_apply (x0 : Vec Ideal S256x128 .f32) (x1 : Vec Ideal S256x64 .f32) (t : Fin 256) (j : Fin 128) :
    scaled x0 x1 (ix2 t j) = turned (row x0 t) (fun j => x1 (ix2 t j)) j := by
  refine (pay1_row _ _ _ t j).trans ?_
  rw [pay10_row, pay5_row, pay4_row]
  rfl

/-- A block's stored scale of a row. -/
theorem pay2_apply (a : FVec Ideal S256x128 .f32) (b : IVec S1x128 1) (c d : FVec Ideal S256x128 .f32)
    (e : IVec S256x128 1) (t : Fin 256) (z : Fin 1) :
    k0_pay2 a b c d e (ix2 t z) = scaleOf (row (k0_pay1 a b c d e) t) := by
  unfold k0_pay2
  dsimp only
  generalize k0_pay1 a b c d e = y
  rw [divf_apply, maximumf_apply, shapeCast_apply _ shapeCasts_S256_S256x1 (ix2 t z) (ix1 t) (by
    rw [Shape.rowMajor_val_one, Shape.rowMajor_val_two]
    show t.val = t.val * 1 + z.val
    omega)]
  have key := rowMax (N := 256) (M := 128) (absf y) 0xFF800000#32 reduces_S256x128_S256 (.inl rfl) rfl t
  exact congrArg (fun z : EReal => Ideal.div (max z (Ideal.ofBits .f32 0x38D1B717#32)) (Ideal.ofBits .f32 0x43E00000#32)) key

/-- A block's stored key. -/
theorem pay3_apply (a : FVec Ideal S256x128 .f32) (b : IVec S1x128 1) (c d : FVec Ideal S256x128 .f32)
    (e : IVec S256x128 1) (t : Fin 256) (j : Fin 128) :
    k0_pay3 a b c d e (ix2 t j)
      = Ideal.div (k0_pay1 a b c d e (ix2 t j)) (scaleOf (row (k0_pay1 a b c d e) t)) := by
  unfold k0_pay3
  rw [divf_apply, broadcastTo_apply _ _ (ix2 t j) (ix2 t (0 : Fin 1)) (fun d => match d with | ⟨0, _⟩ => rfl | ⟨1, _⟩ => rfl),
    pay2_apply]

end Cert.KeyKernel
-- ==== Proof.HeadSum.lean ====
/-
  What one point of the second region stores: at each row and lane the sum over the 16 heads of the rectified, scaled
  score times the head's weight where the lane is not past the row, and elsewhere a value that falls with the lane.
-/
module

public import proofs.«01_k».proof.Proof.Gen.KernelIdeal.Skeleton
public import proofs.«01_k».proof.Proof.KeyRow
public import Idealize.ShloMosaic.Lib.MatmulPlain

@[expose] public section

open Idealize.ShloMosaic Idealize.ShloMosaic.ValueIdx Cert.KernelIdeal Cert.KernelIdeal.Gen

noncomputable section

namespace Cert.HeadSum

/-- One head's term at a row and a lane, from the block of queries, the keys, the keys' scales and the block of weights. -/
def head (q : Vec Ideal S256x2048 .f32) (k : Vec Ideal S2048x128 .f32) (s : Vec Ideal S1x2048 .f32)
    (w : Vec Ideal S256x16 .f32) (t : Fin 256) (l : Fin 2048) (h : Fin 16) : EReal :=
  max ((∑ d : Fin 128, q (ix2 t (⟨128 * h.val + d.val, by omega⟩ : Fin 2048)) * k (ix2 l d)) * s (ix2 (0 : Fin 1) l)) 0
    * w (ix2 t h)

/-- One head's array as the kernel computes it: columns `o …` of the queries, column `n` of the weights. -/
def headVec (o n : Nat) (q : Vec Ideal S256x2048 .f32) (k : Vec Ideal S2048x128 .f32) (s : Vec Ideal S1x2048 .f32)
    (w : Vec Ideal S256x16 .f32) (ho : S256x2048.Slices ![0, o] S256x128) (hn : S256x16.Slices ![0, n] S256x1) :
    FVec Ideal S256x2048 .f32 :=
  mulf
    (extf .f32 (truncf .bf16 (maximumf
      (mulf
        (matmul dot_S256x128_S2048x128_S256x2048_1_1_0_0_n_n none
          (truncf .bf16 (extractStridedSlice S256x128 ![0, o] (k1_pay3 q) ho) bitsLt_bf16_f32) (k1_pay4 k)
          (constant S256x2048 .f32 0x00000000#32))
        (broadcastTo S256x2048 (k1_pay5 s) broadcasts_S1x2048_S256x2048))
      (broadcast S256x2048 (Scalar.ofBits .f32 0x00000000#32))) bitsLt_bf16_f32) bitsLt_bf16_f32)
    (broadcastTo S256x2048
      (extf .f32 (truncf .bf16 (shapeCast S256x1
        (shapeCast S256 (extractStridedSlice S256x1 ![0, n] (k1_pay6 w) hn) shapeCasts_S256x1_S256)
        shapeCasts_S256_S256x1) bitsLt_bf16_f32) bitsLt_bf16_f32)
      broadcasts_S256x1_S256x2048)

/-- That array, read at an index. -/
theorem headVec_apply {o n : Nat} (h : Fin 16) (eo : o = 128 * h.val) (en : n = h.val)
    (q : Vec Ideal S256x2048 .f32) (k : Vec Ideal S2048x128 .f32) (s : Vec Ideal S1x2048 .f32)
    (w : Vec Ideal S256x16 .f32) (ho : S256x2048.Slices ![0, o] S256x128) (hn : S256x16.Slices ![0, n] S256x1)
    (t : Fin 256) (l : Fin 2048) : headVec o n q k s w ho hn (ix2 t l) = head q k s w t l h := by
  unfold headVec head
  unfold k1_pay3 k1_pay4 k1_pay5 k1_pay6
  dsimp only
  rw [shapeCast_self, shapeCast_self, shapeCast_self, shapeCast_self, shapeCast_shapeCast, mulf_apply]
  refine congrArg₂ (fun a b : EReal => a * b) ?_ ?_
  · refine congrArg₂ (fun a b : EReal => max a b) ?_ Ideal.ofBits_zero_f32
    refine congrArg₂ (fun a b : EReal => a * b) ?_ ?_
    · refine (Ideal.matmul_transposedRhs_apply (M := 256) (K := 128) (N := 2048) none _ _ _ t l).trans ?_
      refine (congrArg (fun z : EReal => z + _) Ideal.ofBits_zero_f32).trans ((zero_add _).trans ?_)
      refine Finset.sum_congr rfl fun d _ => congrArg (fun z : EReal => z * _) ?_
      refine extractStridedSlice_apply ![0, o] q ho (ix2 t d) _ fun a => match a with
        | ⟨0, _⟩ => by show t.val = 0 + t.val; omega
        | ⟨1, _⟩ => by show 128 * h.val + d.val = o + d.val; omega
    · exact broadcastTo_apply s _ (ix2 t l) (ix2 (0 : Fin 1) l) fun a => match a with
        | ⟨0, _⟩ => rfl
        | ⟨1, _⟩ => rfl
  · refine (broadcastTo_apply _ _ (ix2 t l) (ix2 t (0 : Fin 1)) fun a => match a with
        | ⟨0, _⟩ => rfl
        | ⟨1, _⟩ => rfl).trans ?_
    refine extractStridedSlice_apply ![0, n] w hn (ix2 t (0 : Fin 1)) _ fun a => match a with
        | ⟨0, _⟩ => by show t.val = 0 + t.val; omega
        | ⟨1, _⟩ => by show h.val = n + 0; omega

/-- The kernel's tree of sums over 16 heads is the sum over the heads. -/
theorem tree (f : Fin 16 → EReal) :
    (((f 0 + f 1) + (f 2 + f 3)) + ((f 4 + f 5) + (f 6 + f 7)))
      + (((f 8 + f 9) + (f 10 + f 11)) + ((f 12 + f 13) + (f 14 + f 15))) = ∑ h, f h := by
  simp only [Fin.sum_univ_succ, Fin.sum_univ_zero, add_zero]
  simp only [add_assoc]
  rfl

/-- What a point stores, from the four blocks it reads and its place `p` on the grid. -/
def stored (p : BitVec 32) (q : Vec Ideal S256x2048 .f32) (k : Vec Ideal S2048x128 .f32) (s : Vec Ideal S1x2048 .f32)
    (w : Vec Ideal S256x16 .f32) : FVec Ideal S256x2048 .f32 :=
  k1_pay2 p (k1_pay7 q k s w) (k1_pay8 q k s w) (k1_pay10 (k1_pay6 w) (k1_pay9 q k s))
    (k1_pay11 (k1_pay3 q) (k1_pay4 k) (k1_pay5 s) (k1_pay6 w)) (k1_pay12 (k1_pay3 q) (k1_pay4 k) (k1_pay5 s) (k1_pay6 w))
    (k1_pay15 (k1_pay13 (k1_pay3 q) (k1_pay4 k) (k1_pay5 s)) (k1_pay14 (k1_pay6 w)))
    (k1_pay16 (k1_pay3 q) (k1_pay4 k) (k1_pay5 s) (k1_pay6 w)) (k1_pay17 (k1_pay3 q) (k1_pay4 k) (k1_pay5 s) (k1_pay6 w))
    (k1_pay1 (k1_pay18 (k1_pay3 q) (k1_pay4 k) (k1_pay5 s) (k1_pay6 w)) (k1_pay19 (k1_pay3 q) (k1_pay4 k) (k1_pay5 s) (k1_pay6 w))
      (k1_pay20 (k1_pay3 q) (k1_pay4 k) (k1_pay5 s) (k1_pay6 w)) (k1_pay21 (k1_pay3 q) (k1_pay4 k) (k1_pay5 s) (k1_pay6 w))
      (k1_pay23 (k1_pay6 w) (k1_pay22 (k1_pay3 q) (k1_pay4 k) (k1_pay5 s)))
      (k1_pay24 (k1_pay3 q) (k1_pay4 k) (k1_pay5 s) (k1_pay6 w)) (k1_pay25 (k1_pay3 q) (k1_pay4 k) (k1_pay5 s) (k1_pay6 w))
      (k1_pay26 (k1_pay3 q) (k1_pay4 k) (k1_pay5 s)) (k1_pay27 (k1_pay6 w)))

/-- The comparison of the lane with the row's place in the whole array. -/
theorem causal (p : Fin 8) (t : Fin 256) (l : Fin 2048) :
    IntOp.cmpi .sle (BitVec.ofNat 32 l.val) (IntOp.addi (Scalar.muli (BitVec.ofNat 32 p.val) 256#32) (BitVec.ofNat 32 t.val))
      = if l.val ≤ 256 * p.val + t.val then 1#1 else 0#1 := by
  have e : IntOp.addi (Scalar.muli (BitVec.ofNat 32 p.val) 256#32) (BitVec.ofNat 32 t.val)
      = BitVec.ofNat 32 (256 * p.val + t.val) := by
    show BitVec.ofNat 32 p.val * 256#32 + BitVec.ofNat 32 t.val = _
    rw [← BitVec.ofNat_mul, ← BitVec.ofNat_add, Nat.mul_comm]
  rw [e]
  have hl : (BitVec.ofNat 32 l.val).toInt = (l.val : Int) := by
    have n : (BitVec.ofNat 32 l.val).toNat = l.val := by rw [BitVec.toNat_ofNat]; omega
    rw [BitVec.toInt_eq_toNat_of_lt (by omega), n]
  have hr : (BitVec.ofNat 32 (256 * p.val + t.val)).toInt = ((256 * p.val + t.val : Nat) : Int) := by
    have n : (BitVec.ofNat 32 (256 * p.val + t.val)).toNat = 256 * p.val + t.val := by rw [BitVec.toNat_ofNat]; omega
    rw [BitVec.toInt_eq_toNat_of_lt (by omega), n]
  show BitVec.ofBool ((BitVec.ofNat 32 l.val).sle (BitVec.ofNat 32 (256 * p.val + t.val))) = _
  unfold BitVec.sle
  rw [hl, hr]
  by_cases c : l.val ≤ 256 * p.val + t.val
  · rw [if_pos c, decide_eq_true (by omega)]; rfl
  · rw [if_neg c, decide_eq_false (by omega)]; rfl

/-- The value left at a lane past the row: it falls with the lane. -/
def past (l : Fin 2048) : EReal :=
  Ideal.ofBits .f32 0xF149F2CA#32
    - FloatOps.sitofp (F := Ideal) .f32 (BitVec.ofNat 32 l.val) * Ideal.ofBits .f32 0x66800000#32

/-- What a point stores, read at an index. -/
theorem stored_apply (p : Fin 8) (q : Vec Ideal S256x2048 .f32) (k : Vec Ideal S2048x128 .f32) (s : Vec Ideal S1x2048 .f32)
    (w : Vec Ideal S256x16 .f32) (t : Fin 256) (l : Fin 2048) :
    stored (BitVec.ofNat 32 p.val) q k s w (ix2 t l)
      = if l.val ≤ 256 * p.val + t.val then ∑ h, head q k s w t l h else past l := by
  unfold stored k1_pay2
  dsimp only
  rw [select_apply]
  have ec := causal p t l
  have es : (∑ h, head q k s w t l h) = _ := (tree fun h => head q k s w t l h).symm
  rw [es]
  refine (congrArg (fun b => Scalar.select b _ _) (?_ : _ = if l.val ≤ 256 * p.val + t.val then 1#1 else 0#1)).trans ?_
  · refine Eq.trans ?_ ec
    show IntOp.cmpi .sle (BitVec.ofNat 32 (0 * _ + l.val)) (IntOp.addi _ (BitVec.ofNat 32 (0 * _ + t.val))) = _
    simp only [Nat.zero_mul, Nat.zero_add]
    rfl
  · by_cases c : l.val ≤ 256 * p.val + t.val
    · rw [if_pos c, if_pos c, select_one]
      refine congrArg₂ (fun a b : EReal => a + b) (congrArg₂ (fun a b : EReal => a + b)
        (congrArg₂ (fun a b : EReal => a + b) (congrArg₂ (fun a b : EReal => a + b) ?_ ?_) (congrArg₂ (fun a b : EReal => a + b) ?_ ?_))
        (congrArg₂ (fun a b : EReal => a + b) (congrArg₂ (fun a b : EReal => a + b) ?_ ?_) (congrArg₂ (fun a b : EReal => a + b) ?_ ?_)))
        (congrArg₂ (fun a b : EReal => a + b)
        (congrArg₂ (fun a b : EReal => a + b) (congrArg₂ (fun a b : EReal => a + b) ?_ ?_) (congrArg₂ (fun a b : EReal => a + b) ?_ ?_))
        (congrArg₂ (fun a b : EReal => a + b) (congrArg₂ (fun a b : EReal => a + b) ?_ ?_) (congrArg₂ (fun a b : EReal => a + b) ?_ ?_)))
      · exact headVec_apply 0 rfl rfl q k s w slices_S256x2048_o0_0_S256x128 slices_S256x16_o0_0_S256x1 t l
      · exact headVec_apply 1 rfl rfl q k s w slices_S256x2048_o0_128_S256x128 slices_S256x16_o0_1_S256x1 t l
      · exact headVec_apply 2 rfl rfl q k s w slices_S256x2048_o0_256_S256x128 slices_S256x16_o0_2_S256x1 t l
      · exact headVec_apply 3 rfl rfl q k s w slices_S256x2048_o0_384_S256x128 slices_S256x16_o0_3_S256x1 t l
      · exact headVec_apply 4 rfl rfl q k s w slices_S256x2048_o0_512_S256x128 slices_S256x16_o0_4_S256x1 t l
      · exact headVec_apply 5 rfl rfl q k s w slices_S256x2048_o0_640_S256x128 slices_S256x16_o0_5_S256x1 t l
      · exact headVec_apply 6 rfl rfl q k s w slices_S256x2048_o0_768_S256x128 slices_S256x16_o0_6_S256x1 t l
      · exact headVec_apply 7 rfl rfl q k s w slices_S256x2048_o0_896_S256x128 slices_S256x16_o0_7_S256x1 t l
      · exact headVec_apply 8 rfl rfl q k s w slices_S256x2048_o0_1024_S256x128 slices_S256x16_o0_8_S256x1 t l
      · exact headVec_apply 9 rfl rfl q k s w slices_S256x2048_o0_1152_S256x128 slices_S256x16_o0_9_S256x1 t l
      · exact headVec_apply 10 rfl rfl q k s w slices_S256x2048_o0_1280_S256x128 slices_S256x16_o0_10_S256x1 t l
      · exact headVec_apply 11 rfl rfl q k s w slices_S256x2048_o0_1408_S256x128 slices_S256x16_o0_11_S256x1 t l
      · exact headVec_apply 12 rfl rfl q k s w slices_S256x2048_o0_1536_S256x128 slices_S256x16_o0_12_S256x1 t l
      · exact headVec_apply 13 rfl rfl q k s w slices_S256x2048_o0_1664_S256x128 slices_S256x16_o0_13_S256x1 t l
      · exact headVec_apply 14 rfl rfl q k s w slices_S256x2048_o0_1792_S256x128 slices_S256x16_o0_14_S256x1 t l
      · exact headVec_apply 15 rfl rfl q k s w slices_S256x2048_o0_1920_S256x128 slices_S256x16_o0_15_S256x1 t l
    · rw [if_neg c, if_neg c, select_zero]
      show _ - FloatOps.sitofp (F := Ideal) .f32 (BitVec.ofNat 32 (0 * _ + l.val)) * _ = _
      rw [Nat.zero_mul, Nat.zero_add]
      rfl

end Cert.HeadSum
-- ==== Proof.Regions.lean ====
/-
  The arrays the two regions leave, whole: every block a point writes back is the block of one function of the arrays
  the region reads, and the blocks tile the result.
-/
module

public import proofs.«01_k».proof.Proof.Gen.KernelIdeal.Frame
public import proofs.«01_k».proof.Proof.KeyKernel
public import proofs.«01_k».proof.Proof.HeadSum
public import Idealize.ShloMosaic.Lib.Pipeline.Value

@[expose] public section

open Idealize.ShloMosaic Idealize.ShloMosaic.ValueIdx Idealize.ShloMosaic.TcCoe Cert.KernelIdeal Cert.KernelIdeal.Gen
open Cert.Rows Cert.KeyKernel Cert.HeadSum
open Idealize.ShloMosaic.Pipeline (Dat)

noncomputable section

namespace Cert.Regions

variable (V : (c : Dev nD) → (b : Ref sig .tc) → Buf (Elt Ideal) ((c : Thread nD τ).loc b))

/-- The two spellings of the zero offset. -/
theorem hz : (![0, 0] : Fin 2 → Nat) = fun _ => 0 := funext fun a => by fin_cases a <;> rfl

/-- Where the first region's blocks lie: point `t` has block `t` along the rows. -/
theorem places0 (t : Fin cfg0.N) : t.val < 8
    ∧ (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by
  rcases fin_N0 t with rfl | rfl | rfl | rfl | rfl | rfl | rfl | rfl <;> decide +kernel

/-- Row `256 t + r` of a whole array. -/
abbrev at256 (t : Nat) (h : t < 8) (r : Fin 256) : Fin 2048 := ⟨256 * t + r.val, by omega⟩

/-- The block of keys a point reads. -/
theorem read0_0 (c : Dev nD) (t : Fin cfg0.N) (r : Fin 256) (j : Fin 128) :
    (iblk0 V c 0 t : S256x128.Idx → EReal) (ix2 r j)
      = (V c main_v136 : S2048x128.Idx → EReal) (ix2 (at256 t.val (places0 t).1 r) j) := by
  refine congrArg (V c main_v136 : S2048x128.Idx → EReal) (funext fun a => Fin.ext ?_)
  obtain ⟨_, ⟨e0, e1⟩, _⟩ := places0 t
  match a with
  | ⟨0, _⟩ => show win0_0.index t 0 * 256 + 1 * r.val = 256 * t.val + r.val; rw [e0]; omega
  | ⟨1, _⟩ => show win0_0.index t 1 * 128 + 1 * j.val = j.val; rw [e1]; omega

/-- The block of cosines and sines a point reads. -/
theorem read0_1 (c : Dev nD) (t : Fin cfg0.N) (r : Fin 256) (j : Fin 64) :
    (iblk0 V c 1 t : S256x64.Idx → EReal) (ix2 r j)
      = (V c main_v6 : S2048x64.Idx → EReal) (ix2 (at256 t.val (places0 t).1 r) j) := by
  refine congrArg (V c main_v6 : S2048x64.Idx → EReal) (funext fun a => Fin.ext ?_)
  obtain ⟨_, _, ⟨e0, e1⟩, _⟩ := places0 t
  match a with
  | ⟨0, _⟩ => show win0_1.index t 0 * 256 + 1 * r.val = 256 * t.val + r.val; rw [e0]; omega
  | ⟨1, _⟩ => show win0_1.index t 1 * 64 + 1 * j.val = j.val; rw [e1]; omega

/-- Row `t` rotated, transformed and scaled, from the whole arrays. -/
def keyRow (x : S2048x128.Idx → EReal) (a : S2048x64.Idx → EReal) (t : Fin 2048) : Fin 128 → EReal :=
  turned (row x t) fun j => a (ix2 t j)

/-- The quantised keys as one function of the whole arrays. -/
def keys (x : S2048x128.Idx → EReal) (a : S2048x64.Idx → EReal) : S2048x128.Idx → EReal := fun i =>
  Ideal.div (keyRow x a (i 0) (i 1)) (scaleOf (keyRow x a (i 0)))

/-- The keys' scales as one function of the whole arrays. -/
def scales (x : S2048x128.Idx → EReal) (a : S2048x64.Idx → EReal) : S2048x1.Idx → EReal := fun i =>
  scaleOf (keyRow x a (i 0))

/-- The rows of a point's block are the rows of the whole arrays at the block's place. -/
theorem scaled_row (c : Dev nD) (t : Fin cfg0.N) (r : Fin 256) :
    row (scaled (iblk0 V c 0 t) (iblk0 V c 1 t)) r
      = keyRow (V c main_v136) (V c main_v6) (at256 t.val (places0 t).1 r) := by
  funext j
  refine (scaled_apply _ _ r j).trans ?_
  unfold keyRow
  have e0 : row (iblk0 V c 0 t : S256x128.Idx → EReal) r
      = row (V c main_v136 : S2048x128.Idx → EReal) (at256 t.val (places0 t).1 r) := funext fun j => read0_0 V c t r j
  have e1 : (fun j => (iblk0 V c 1 t : S256x64.Idx → EReal) (ix2 r j))
      = fun j => (V c main_v6 : S2048x64.Idx → EReal) (ix2 (at256 t.val (places0 t).1 r) j) :=
    funext fun j => read0_1 V c t r j
  exact congrFun (congrArg₂ turned e0 e1) j

/-- What a point writes back of the keys is its block of `keys`. -/
theorem flushed0_2 (c : Dev nD) (t : Fin cfg0.N) :
    (dat0 V c).flushed 2 t = (win0_2.blk t).view.read (Elt Ideal) (keys (V c main_v136) (V c main_v6)) := by
  show (cfg0.win 2).cut (grid0.coords t) ((dat0 V c).after 2 t) = _
  rw [after0_2]
  unfold_out out0_2
  rw [View.canon_unit_zero hz, View.ld_unit_zero hz, View.ld_unit_zero hz]
  funext y
  obtain ⟨r, j, rfl⟩ : ∃ (r : Fin 256) (j : Fin 128), y = ix2 r j := ⟨y 0, y 1, eq_ix2 y⟩
  refine (pay3_apply _ _ _ _ _ r j).trans ?_
  have e := scaled_row V c t r
  have key : Ideal.div (row (scaled (iblk0 V c 0 t) (iblk0 V c 1 t)) r j)
      (scaleOf (row (scaled (iblk0 V c 0 t) (iblk0 V c 1 t)) r)) = keys (V c main_v136) (V c main_v6)
        (ix2 (at256 t.val (places0 t).1 r) j) := by rw [e]; rfl
  refine key.trans (congrArg (keys (V c main_v136) (V c main_v6)) (funext fun a => Fin.ext ?_))
  obtain ⟨_, _, _, ⟨e0, e1⟩, _⟩ := places0 t
  match a with
  | ⟨0, _⟩ => show 256 * t.val + r.val = win0_2.index t 0 * 256 + 1 * r.val; rw [e0]; omega
  | ⟨1, _⟩ => show j.val = win0_2.index t 1 * 128 + 1 * j.val; rw [e1]; omega

/-- What a point writes back of the scales is its block of `scales`. -/
theorem flushed0_3 (c : Dev nD) (t : Fin cfg0.N) :
    (dat0 V c).flushed 3 t = (win0_3.blk t).view.read (Elt Ideal) (scales (V c main_v136) (V c main_v6)) := by
  show (cfg0.win 3).cut (grid0.coords t) ((dat0 V c).after 3 t) = _
  rw [after0_3]
  unfold_out out0_3
  rw [View.canon_unit_zero hz, View.ld_unit_zero hz, View.ld_unit_zero hz]
  funext y
  obtain ⟨r, j, rfl⟩ : ∃ (r : Fin 256) (j : Fin 1), y = ix2 r j := ⟨y 0, y 1, eq_ix2 y⟩
  refine (pay2_apply _ _ _ _ _ r j).trans ?_
  have e := scaled_row V c t r
  have key : scaleOf (row (scaled (iblk0 V c 0 t) (iblk0 V c 1 t)) r) = scales (V c main_v136) (V c main_v6)
        (ix2 (at256 t.val (places0 t).1 r) j) := by rw [e]; rfl
  refine key.trans (congrArg (scales (V c main_v136) (V c main_v6)) (funext fun a => Fin.ext ?_))
  obtain ⟨_, _, _, _, ⟨e0, e1⟩⟩ := places0 t
  match a with
  | ⟨0, _⟩ => show 256 * t.val + r.val = win0_3.index t 0 * 256 + 1 * r.val; rw [e0]; omega
  | ⟨1, _⟩ => show j.val = win0_3.index t 1 * 1 + 1 * j.val; rw [e1]; omega

/-- The point whose block holds row `i`. -/
def pointOf0 (i : Fin 2048) : Fin cfg0.N := ⟨i.val / 256, by have : cfg0.N = 8 := N_0; omega⟩

/-- The blocks of the keys tile their array. -/
theorem cover0_keys (i : S2048x128.Idx) :
    ∃ t : Fin cfg0.N, (cfg0.win 2).flush t = true ∧ i ∈ ((cfg0.win 2).blk t).view.set := by
  refine ⟨pointOf0 (i 0), flush0_2 _, ?_⟩
  show i ∈ ((View.whole main_call0_v0_0).slice (win0_2.rect (pointOf0 (i 0)))).set
  rw [View.set_slice_whole, Rect.mem_set_unit]
  obtain ⟨_, _, _, ⟨e0, e1⟩, _⟩ := places0 (pointOf0 (i 0))
  have v : (pointOf0 (i 0)).val = (i 0).val / 256 := rfl
  intro a
  match a with
  | ⟨0, _⟩ =>
    show win0_2.index (pointOf0 (i 0)) 0 * 256 ≤ (i 0).val ∧ (i 0).val < win0_2.index (pointOf0 (i 0)) 0 * 256 + 256
    rw [e0, v]; omega
  | ⟨1, _⟩ =>
    have := (i 1).isLt
    show win0_2.index (pointOf0 (i 0)) 1 * 128 ≤ (i 1).val ∧ (i 1).val < win0_2.index (pointOf0 (i 0)) 1 * 128 + 128
    rw [e1]; exact ⟨by omega, by simpa using (i 1).isLt⟩

/-- The blocks of the scales tile their array. -/
theorem cover0_scales (i : S2048x1.Idx) :
    ∃ t : Fin cfg0.N, (cfg0.win 3).flush t = true ∧ i ∈ ((cfg0.win 3).blk t).view.set := by
  refine ⟨pointOf0 (i 0), flush0_3 _, ?_⟩
  show i ∈ ((View.whole main_call0_v0_1).slice (win0_3.rect (pointOf0 (i 0)))).set
  rw [View.set_slice_whole, Rect.mem_set_unit]
  obtain ⟨_, _, _, _, ⟨e0, e1⟩⟩ := places0 (pointOf0 (i 0))
  have v : (pointOf0 (i 0)).val = (i 0).val / 256 := rfl
  intro a
  match a with
  | ⟨0, _⟩ =>
    show win0_3.index (pointOf0 (i 0)) 0 * 256 ≤ (i 0).val ∧ (i 0).val < win0_3.index (pointOf0 (i 0)) 0 * 256 + 256
    rw [e0, v]; omega
  | ⟨1, _⟩ =>
    show win0_3.index (pointOf0 (i 0)) 1 * 1 ≤ (i 1).val ∧ (i 1).val < win0_3.index (pointOf0 (i 0)) 1 * 1 + 1
    rw [e1]; exact ⟨by omega, by simpa using (i 1).isLt⟩

/-- The array of keys the first region leaves. -/
theorem final0_2 (c : Dev nD) : (dat0 V c).arrAt 2 cfg0.N = keys (V c main_v136) (V c main_v6) :=
  (dat0 V c).arrAt_eq_of_cover 2 (keys (V c main_v136) (V c main_v6)) (fun t _ => flushed0_2 V c t) cover0_keys

/-- The array of scales the first region leaves. -/
theorem final0_3 (c : Dev nD) : (dat0 V c).arrAt 3 cfg0.N = scales (V c main_v136) (V c main_v6) :=
  (dat0 V c).arrAt_eq_of_cover 3 (scales (V c main_v136) (V c main_v6)) (fun t _ => flushed0_3 V c t) cover0_scales

/-- Where the second region's blocks lie: rows by the point for the queries, the weights and the result; the keys and
    their scales whole. -/
theorem places1 (t : Fin cfg1.N) : t.val < 8 ∧ (grid1.coords t 0).val = t.val
    ∧ (win1_0.index t 0 = t.val ∧ win1_0.index t 1 = 0) ∧ (win1_1.index t 0 = 0 ∧ win1_1.index t 1 = 0)
    ∧ (win1_2.index t 0 = 0 ∧ win1_2.index t 1 = 0) ∧ (win1_3.index t 0 = t.val ∧ win1_3.index t 1 = 0)
    ∧ (win1_4.index t 0 = t.val ∧ win1_4.index t 1 = 0) := by
  rcases fin_N1 t with rfl | rfl | rfl | rfl | rfl | rfl | rfl | rfl <;> decide +kernel

/-- The block of queries a point reads. -/
theorem read1_0 (c : Dev nD) (t : Fin cfg1.N) (r : Fin 256) (j : Fin 2048) :
    (iblk1 V c 0 t : S256x2048.Idx → EReal) (ix2 r j)
      = (V c main_v105 : S2048x2048.Idx → EReal) (ix2 (at256 t.val (places1 t).1 r) j) := by
  refine congrArg (V c main_v105 : S2048x2048.Idx → EReal) (funext fun a => Fin.ext ?_)
  obtain ⟨_, _, ⟨e0, e1⟩, _⟩ := places1 t
  match a with
  | ⟨0, _⟩ => show win1_0.index t 0 * 256 + 1 * r.val = 256 * t.val + r.val; rw [e0]; omega
  | ⟨1, _⟩ => show win1_0.index t 1 * 2048 + 1 * j.val = j.val; rw [e1]; omega

/-- The keys a point reads: all of them. -/
theorem read1_1 (c : Dev nD) (t : Fin cfg1.N) (r : Fin 2048) (j : Fin 128) :
    (iblk1 V c 1 t : S2048x128.Idx → EReal) (ix2 r j) = (V c main_call0_v0_0 : S2048x128.Idx → EReal) (ix2 r j) := by
  refine congrArg (V c main_call0_v0_0 : S2048x128.Idx → EReal) (funext fun a => Fin.ext ?_)
  obtain ⟨_, _, _, ⟨e0, e1⟩, _⟩ := places1 t
  match a with
  | ⟨0, _⟩ => show win1_1.index t 0 * 2048 + 1 * r.val = r.val; rw [e0]; omega
  | ⟨1, _⟩ => show win1_1.index t 1 * 128 + 1 * j.val = j.val; rw [e1]; omega

/-- The keys' scales a point reads: all of them. -/
theorem read1_2 (c : Dev nD) (t : Fin cfg1.N) (r : Fin 1) (j : Fin 2048) :
    (iblk1 V c 2 t : S1x2048.Idx → EReal) (ix2 r j) = (V c main_call0_v1 : S1x2048.Idx → EReal) (ix2 r j) := by
  refine congrArg (V c main_call0_v1 : S1x2048.Idx → EReal) (funext fun a => Fin.ext ?_)
  obtain ⟨_, _, _, _, ⟨e0, e1⟩, _⟩ := places1 t
  match a with
  | ⟨0, _⟩ => show win1_2.index t 0 * 1 + 1 * r.val = r.val; rw [e0]; omega
  | ⟨1, _⟩ => show win1_2.index t 1 * 2048 + 1 * j.val = j.val; rw [e1]; omega

/-- The block of weights a point reads. -/
theorem read1_3 (c : Dev nD) (t : Fin cfg1.N) (r : Fin 256) (j : Fin 16) :
    (iblk1 V c 3 t : S256x16.Idx → EReal) (ix2 r j)
      = (V c main_v111 : S2048x16.Idx → EReal) (ix2 (at256 t.val (places1 t).1 r) j) := by
  refine congrArg (V c main_v111 : S2048x16.Idx → EReal) (funext fun a => Fin.ext ?_)
  obtain ⟨_, _, _, _, _, ⟨e0, e1⟩, _⟩ := places1 t
  match a with
  | ⟨0, _⟩ => show win1_3.index t 0 * 256 + 1 * r.val = 256 * t.val + r.val; rw [e0]; omega
  | ⟨1, _⟩ => show win1_3.index t 1 * 16 + 1 * j.val = j.val; rw [e1]; omega

/-- One head's term of the logit of row `t` at lane `l`, from the whole arrays. -/
def term (q : S2048x2048.Idx → EReal) (k : S2048x128.Idx → EReal) (s : S1x2048.Idx → EReal)
    (w : S2048x16.Idx → EReal) (t l : Fin 2048) (h : Fin 16) : EReal :=
  max ((∑ d : Fin 128, q (ix2 t (⟨128 * h.val + d.val, by omega⟩ : Fin 2048)) * k (ix2 l d))
    * s (ix2 (0 : Fin 1) l)) 0 * w (ix2 t h)

/-- The logit of row `t` at lane `l`: the sum of the heads' terms. -/
def logit (q : S2048x2048.Idx → EReal) (k : S2048x128.Idx → EReal) (s : S1x2048.Idx → EReal)
    (w : S2048x16.Idx → EReal) (t l : Fin 2048) : EReal := ∑ h : Fin 16, term q k s w t l h

/-- The logits with the values past the row, as one function of the whole arrays. -/
def logits (q : S2048x2048.Idx → EReal) (k : S2048x128.Idx → EReal) (s : S1x2048.Idx → EReal)
    (w : S2048x16.Idx → EReal) : S2048x2048.Idx → EReal := fun i =>
  if (i 1).val ≤ (i 0).val then logit q k s w (i 0) (i 1) else past (i 1)

/-- What a point writes back is its block of `logits`. -/
theorem flushed1_4 (c : Dev nD) (t : Fin cfg1.N) :
    (dat1 V c).flushed 4 t = (win1_4.blk t).view.read (Elt Ideal)
      (logits (V c main_v105) (V c main_call0_v0_0) (V c main_call0_v1) (V c main_v111)) := by
  show (cfg1.win 4).cut (grid1.coords t) ((dat1 V c).after 4 t) = _
  rw [after1_4]
  unfold_out out1_4
  rw [View.canon_unit_zero hz, View.ld_unit_zero hz, View.ld_unit_zero hz, View.ld_unit_zero hz, View.ld_unit_zero hz]
  funext y
  obtain ⟨r, l, rfl⟩ : ∃ (r : Fin 256) (l : Fin 2048), y = ix2 r l := ⟨y 0, y 1, eq_ix2 y⟩
  obtain ⟨ht, ec, _, _, _, _, ⟨e0, e1⟩⟩ := places1 t
  rw [ec]
  refine (stored_apply ⟨t.val, ht⟩ (iblk1 V c 0 t) (iblk1 V c 1 t) (iblk1 V c 2 t) (iblk1 V c 3 t) r l).trans ?_
  have key : (if l.val ≤ 256 * t.val + r.val then
        ∑ h, head (iblk1 V c 0 t) (iblk1 V c 1 t) (iblk1 V c 2 t) (iblk1 V c 3 t) r l h else past l)
      = logits (V c main_v105) (V c main_call0_v0_0) (V c main_call0_v1) (V c main_v111)
        (ix2 (at256 t.val ht r) l) := by
    have inner : ∀ h, head (iblk1 V c 0 t) (iblk1 V c 1 t) (iblk1 V c 2 t) (iblk1 V c 3 t) r l h
        = term (V c main_v105) (V c main_call0_v0_0) (V c main_call0_v1) (V c main_v111) (at256 t.val ht r) l h := fun h => by
      refine congrArg₂ (fun a b : EReal => a * b) (congrArg (fun a : EReal => max a 0)
        (congrArg₂ (fun a b : EReal => a * b) (Finset.sum_congr rfl fun d _ => congrArg₂ (fun a b : EReal => a * b) ?_ ?_) ?_)) ?_
      · exact read1_0 V c t r _
      · exact read1_1 V c t l d
      · exact read1_2 V c t 0 l
      · exact read1_3 V c t r h
    rw [Finset.sum_congr rfl fun h _ => inner h]
    rfl
  refine key.trans (congrArg (logits (V c main_v105) (V c main_call0_v0_0) (V c main_call0_v1) (V c main_v111))
    (funext fun a => Fin.ext ?_))
  match a with
  | ⟨0, _⟩ => show 256 * t.val + r.val = win1_4.index t 0 * 256 + 1 * r.val; rw [e0]; omega
  | ⟨1, _⟩ => show l.val = win1_4.index t 1 * 2048 + 1 * l.val; rw [e1]; omega

/-- The point whose block holds row `i`. -/
def pointOf1 (i : Fin 2048) : Fin cfg1.N := ⟨i.val / 256, by have : cfg1.N = 8 := N_1; omega⟩

/-- The blocks of the logits tile their array. -/
theorem cover1 (i : S2048x2048.Idx) :
    ∃ t : Fin cfg1.N, (cfg1.win 4).flush t = true ∧ i ∈ ((cfg1.win 4).blk t).view.set := by
  refine ⟨pointOf1 (i 0), flush1_4 _, ?_⟩
  show i ∈ ((View.whole main_v137).slice (win1_4.rect (pointOf1 (i 0)))).set
  rw [View.set_slice_whole, Rect.mem_set_unit]
  obtain ⟨_, _, _, _, _, _, ⟨e0, e1⟩⟩ := places1 (pointOf1 (i 0))
  have v : (pointOf1 (i 0)).val = (i 0).val / 256 := rfl
  intro a
  match a with
  | ⟨0, _⟩ =>
    show win1_4.index (pointOf1 (i 0)) 0 * 256 ≤ (i 0).val ∧ (i 0).val < win1_4.index (pointOf1 (i 0)) 0 * 256 + 256
    rw [e0, v]; omega
  | ⟨1, _⟩ =>
    show win1_4.index (pointOf1 (i 0)) 1 * 2048 ≤ (i 1).val ∧ (i 1).val < win1_4.index (pointOf1 (i 0)) 1 * 2048 + 2048
    rw [e1]; exact ⟨by omega, by simpa using (i 1).isLt⟩

/-- The array of logits the second region leaves. -/
theorem final1_4 (c : Dev nD) : (dat1 V c).arrAt 4 cfg1.N
    = logits (V c main_v105) (V c main_call0_v0_0) (V c main_call0_v1) (V c main_v111) :=
  (dat1 V c).arrAt_eq_of_cover 4 (logits (V c main_v105) (V c main_call0_v0_0) (V c main_call0_v1) (V c main_v111))
    (fun t _ => flushed1_4 V c t) cover1

end Cert.Regions
-- ==== Proof.KeyReference.lean ====
/-
  The reference's keys and their scales, row by row: the rows of `KeyRow.lean`.
-/
module

public import proofs.«01_k».proof.Proof.Gen.ReferenceIdeal.Read
public import proofs.«01_k».proof.Proof.KeyRow

@[expose] public section

open Idealize.ShloMosaic Idealize.ShloMosaic.ValueIdx Cert.ReferenceIdeal Cert.ReferenceIdeal.Gen
open Cert.ReferenceIdeal.Read Cert.Rows

noncomputable section

namespace Cert.KeyReference

variable (x0 : (⟨S2048x2048, .f32⟩ : BufTy).Contents (Elt Ideal)) (x2 : (⟨S2048, .i32⟩ : BufTy).Contents (Elt Ideal))
  (x4 : (⟨S2048x128, .f32⟩ : BufTy).Contents (Elt Ideal)) (x5 x6 : (⟨S128, .f32⟩ : BufTy).Contents (Elt Ideal))
  (x8 : (⟨S8192x64, .f32⟩ : BufTy).Contents (Elt Ideal))

/-- The rotated keys' rows. -/
theorem rope_row (t : Fin 2048) :
    row (val_main_v61 (F := Ideal) x0 x2 x4 x5 x6 x8) t
      = rope (row (val_main_v26 (F := Ideal) x0 x4 x5 x6) t) fun j => val_main_v33 (F := Ideal) x2 x8 (ix2 t j) := by
  exact halves_row (val_main_v26 (F := Ideal) x0 x4 x5 x6) (val_main_v33 (F := Ideal) x2 x8) _ _ _ _ _ _
    (val_main_v56 (F := Ideal) x0 x2 x4 x5 x6 x8) (val_main_v59 (F := Ideal) x0 x2 x4 x5 x6 x8) _ (fun _ => rfl)
    (fun _ => rfl) rfl t

/-- The transformed keys' rows, before the scale. -/
theorem fwht_row (t : Fin 2048) :
    row (val_main_v191 (F := Ideal) x0 x2 x4 x5 x6 x8) t = fwht (row (val_main_v61 (F := Ideal) x0 x2 x4 x5 x6 x8) t) := by
  have s64 : row (val_main_v191 (F := Ideal) x0 x2 x4 x5 x6 x8) t = bf 64 (row (val_main_v182 (F := Ideal) x0 x2 x4 x5 x6 x8) t) :=
    paired_stage (m := 1) (h := 64) rfl (by decide) _ _ _ _ _ _ _ _ _ _ rfl rfl rfl t
  have s32 : row (val_main_v182 (F := Ideal) x0 x2 x4 x5 x6 x8) t = bf 32 (row (val_main_v173 (F := Ideal) x0 x2 x4 x5 x6 x8) t) :=
    paired_stage (m := 2) (h := 32) rfl (by decide) _ _ _ _ _ _ _ _ _ _ rfl rfl rfl t
  have s16 : row (val_main_v173 (F := Ideal) x0 x2 x4 x5 x6 x8) t = bf 16 (row (val_main_v164 (F := Ideal) x0 x2 x4 x5 x6 x8) t) :=
    paired_stage (m := 4) (h := 16) rfl (by decide) _ _ _ _ _ _ _ _ _ _ rfl rfl rfl t
  have s8 : row (val_main_v164 (F := Ideal) x0 x2 x4 x5 x6 x8) t = bf 8 (row (val_main_v155 (F := Ideal) x0 x2 x4 x5 x6 x8) t) :=
    paired_stage (m := 8) (h := 8) rfl (by decide) _ _ _ _ _ _ _ _ _ _ rfl rfl rfl t
  have s4 : row (val_main_v155 (F := Ideal) x0 x2 x4 x5 x6 x8) t = bf 4 (row (val_main_v146 (F := Ideal) x0 x2 x4 x5 x6 x8) t) :=
    paired_stage (m := 16) (h := 4) rfl (by decide) _ _ _ _ _ _ _ _ _ _ rfl rfl rfl t
  have s2 : row (val_main_v146 (F := Ideal) x0 x2 x4 x5 x6 x8) t = bf 2 (row (val_main_v137 (F := Ideal) x0 x2 x4 x5 x6 x8) t) :=
    paired_stage (m := 32) (h := 2) rfl (by decide) _ _ _ _ _ _ _ _ _ _ rfl rfl rfl t
  have s1 : row (val_main_v137 (F := Ideal) x0 x2 x4 x5 x6 x8) t = bf 1 (row (val_main_v61 (F := Ideal) x0 x2 x4 x5 x6 x8) t) :=
    paired_stage (m := 64) (h := 1) rfl (by decide) _ _ _ _ _ _ _ _ _ _ rfl rfl rfl t
  rw [s64, s32, s16, s8, s4, s2, s1]
  rfl

/-- The scaled keys, read at an index. -/
theorem turned_apply (t : Fin 2048) (j : Fin 128) :
    val_main_v193 (F := Ideal) x0 x2 x4 x5 x6 x8 (ix2 t j)
      = turned (row (val_main_v26 (F := Ideal) x0 x4 x5 x6) t) (fun j => val_main_v33 (F := Ideal) x2 x8 (ix2 t j)) j := by
  have e := congrFun (fwht_row x0 x2 x4 x5 x6 x8 t) j
  rw [rope_row, row_apply] at e
  rw [val_main_v193_apply, e]
  rfl

/-- The keys' scales. -/
theorem scale_apply (t : Fin 2048) (z : Fin 1) :
    val_main_v209 (F := Ideal) x0 x2 x4 x5 x6 x8 (ix2 t z)
      = scaleOf (row (val_main_v193 (F := Ideal) x0 x2 x4 x5 x6 x8) t) := by
  have r : S2048x128.Reduces [(1 : Fin 2)] S2048 := by decide
  have e : val_main_v204 (F := Ideal) x0 x2 x4 x5 x6 x8 (ix1 t)
      = (Finset.univ : Finset (Fin 128)).fold max (Ideal.ofBits .f32 0xFF800000#32)
          fun j => FloatOps.hostAbsf (F := Ideal) (φ := .f32) (row (val_main_v193 (F := Ideal) x0 x2 x4 x5 x6 x8) t j) := by
    exact hostRowMax (val_main_v203 (F := Ideal) x0 x2 x4 x5 x6 x8) _ _ r _ t
  have b : val_main_v205 (F := Ideal) x0 x2 x4 x5 x6 x8 (ix2 t z) = val_main_v204 (F := Ideal) x0 x2 x4 x5 x6 x8 (ix1 t) :=
    broadcastInDim_apply _ _ _ _ _ fun d => match d with | ⟨0, _⟩ => rfl
  show Ideal.div (max (val_main_v205 (F := Ideal) x0 x2 x4 x5 x6 x8 (ix2 t z)) (Ideal.ofBits .f32 0x38D1B717#32))
    (Ideal.ofBits .f32 0x43E00000#32) = _
  rw [b, e]
  rfl

/-- The quantised keys. -/
theorem quotient_apply (t : Fin 2048) (j : Fin 128) :
    val_main_v211 (F := Ideal) x0 x2 x4 x5 x6 x8 (ix2 t j)
      = Ideal.div (val_main_v193 (F := Ideal) x0 x2 x4 x5 x6 x8 (ix2 t j))
          (scaleOf (row (val_main_v193 (F := Ideal) x0 x2 x4 x5 x6 x8) t)) := by
  have b : val_main_v210 (F := Ideal) x0 x2 x4 x5 x6 x8 (ix2 t j) = val_main_v209 (F := Ideal) x0 x2 x4 x5 x6 x8 (ix2 t (0 : Fin 1)) :=
    broadcastInDim_apply _ _ _ _ _ fun d => match d with | ⟨0, _⟩ => rfl | ⟨1, _⟩ => rfl
  show Ideal.div _ (val_main_v210 (F := Ideal) x0 x2 x4 x5 x6 x8 (ix2 t j)) = _
  rw [b, scale_apply]

end Cert.KeyReference
-- ==== Proof.Logits.lean ====
/-
  The logits of both programs: the kernel's array, built from what its first region and host line leave, has the
  reference's logits at every lane not past the row.
-/
module

public import proofs.«01_k».proof.Proof.Regions
public import proofs.«01_k».proof.Proof.KeyReference

@[expose] public section

open Idealize.ShloMosaic Idealize.ShloMosaic.ValueIdx Cert.ReferenceIdeal Cert.ReferenceIdeal.Gen
open Cert.ReferenceIdeal.Read Cert.Rows Cert.Regions

noncomputable section

namespace Cert.Logits

variable (x0 : (⟨S2048x2048, .f32⟩ : BufTy).Contents (Elt Ideal)) (x1 : (⟨S2048x1536, .f32⟩ : BufTy).Contents (Elt Ideal))
  (x2 : (⟨S2048, .i32⟩ : BufTy).Contents (Elt Ideal)) (x3 : (⟨S1536x2048, .f32⟩ : BufTy).Contents (Elt Ideal))
  (x4 : (⟨S2048x128, .f32⟩ : BufTy).Contents (Elt Ideal)) (x5 x6 : (⟨S128, .f32⟩ : BufTy).Contents (Elt Ideal))
  (x7 : (⟨S2048x16, .f32⟩ : BufTy).Contents (Elt Ideal)) (x8 : (⟨S8192x64, .f32⟩ : BufTy).Contents (Elt Ideal))

/-- A row of the first region's keys before the quotient is the reference's. -/
theorem keyRow_eq (t : Fin 2048) :
    keyRow (val_main_v26 (F := Ideal) x0 x4 x5 x6) (val_main_v33 (F := Ideal) x2 x8) t
      = row (val_main_v193 (F := Ideal) x0 x2 x4 x5 x6 x8) t :=
  funext fun j => (KeyReference.turned_apply x0 x2 x4 x5 x6 x8 t j).symm

/-- The first region's keys are the reference's. -/
theorem keys_eq : keys (val_main_v26 (F := Ideal) x0 x4 x5 x6) (val_main_v33 (F := Ideal) x2 x8)
    = val_main_v211 (F := Ideal) x0 x2 x4 x5 x6 x8 := by
  funext i
  obtain ⟨t, j, rfl⟩ : ∃ (t : Fin 2048) (j : Fin 128), i = ix2 t j := ⟨i 0, i 1, eq_ix2 i⟩
  refine Eq.trans ?_ (KeyReference.quotient_apply x0 x2 x4 x5 x6 x8 t j).symm
  show Ideal.div (keyRow _ _ t j) (scaleOf (keyRow _ _ t)) = _
  rw [keyRow_eq]
  rfl

/-- The first region's scales are the reference's. -/
theorem scales_eq : scales (val_main_v26 (F := Ideal) x0 x4 x5 x6) (val_main_v33 (F := Ideal) x2 x8)
    = val_main_v209 (F := Ideal) x0 x2 x4 x5 x6 x8 := by
  funext i
  obtain ⟨t, j, rfl⟩ : ∃ (t : Fin 2048) (j : Fin 1), i = ix2 t j := ⟨i 0, i 1, eq_ix2 i⟩
  refine Eq.trans ?_ (KeyReference.scale_apply x0 x2 x4 x5 x6 x8 t j).symm
  show scaleOf (keyRow _ _ t) = _
  rw [keyRow_eq]

/-- One head's rectified, scaled score in the reference. -/
theorem score_apply (t l : Fin 2048) (h : Fin 16) :
    val_main_v223 (F := Ideal) x0 x1 x2 x3 x4 x5 x6 x8 (ix3 t h l)
      = max ((∑ d : Fin 128, val_main_v202 (F := Ideal) x1 x2 x3 x8 (ix3 t h d)
          * val_main_v211 (F := Ideal) x0 x2 x4 x5 x6 x8 (ix2 l d))
        * val_main_v209 (F := Ideal) x0 x2 x4 x5 x6 x8 (ix2 l (0 : Fin 1))) 0 := by
  rw [val_main_v223_apply, val_main_v222_apply]
  refine congrArg₂ (fun a b : EReal => max a b) (congrArg₂ (fun a b : EReal => a * b) ?_ ?_) Ideal.ofBits_zero_f32
  · refine (val_main_v218_apply x0 x1 x2 x3 x4 x5 x6 x8 _).trans (Finset.sum_congr rfl fun d _ => ?_)
    refine congrArg₂ (fun a b : EReal => a * b) (congrArg _ ?_) (congrArg _ ?_)
    · funext a; match a with | ⟨0, _⟩ => rfl | ⟨1, _⟩ => rfl | ⟨2, _⟩ => rfl
    · funext a; match a with | ⟨0, _⟩ => rfl | ⟨1, _⟩ => rfl
  · rw [val_main_v221_apply, val_main_v220_apply, val_main_v219_apply]
    refine congrArg _ ?_
    funext a; match a with
      | ⟨0, _⟩ => exact Fin.ext (Nat.div_one _)
      | ⟨1, _⟩ => rfl

/-- The reference's logit: the sum over the heads of the score times the weight. -/
theorem logit_apply (t l : Fin 2048) :
    val_main_v224 (F := Ideal) x0 x1 x2 x3 x4 x5 x6 x7 x8 (ix2 t l)
      = ∑ h : Fin 16, max ((∑ d : Fin 128, val_main_v202 (F := Ideal) x1 x2 x3 x8 (ix3 t h d)
          * val_main_v211 (F := Ideal) x0 x2 x4 x5 x6 x8 (ix2 l d))
        * val_main_v209 (F := Ideal) x0 x2 x4 x5 x6 x8 (ix2 l (0 : Fin 1))) 0
        * val_main_v217 (F := Ideal) x0 x1 x2 x3 x7 x8 (ix2 t h) := by
  refine (val_main_v224_apply x0 x1 x2 x3 x4 x5 x6 x7 x8 _).trans (Finset.sum_congr rfl fun h _ => ?_)
  refine congrArg₂ (fun a b : EReal => a * b) (Eq.trans (congrArg _ ?_) (score_apply x0 x1 x2 x3 x4 x5 x6 x8 t l h)) (congrArg _ ?_)
  · funext a; match a with | ⟨0, _⟩ => rfl | ⟨1, _⟩ => rfl | ⟨2, _⟩ => rfl
  · funext a; match a with | ⟨0, _⟩ => rfl | ⟨1, _⟩ => rfl

/-- The kernel's logit, from the arrays the host line and the first region leave, is the reference's. -/
theorem logit_eq (hq : S2048x16x128.ShapeCasts S2048x2048) (hs : S2048x1.ShapeCasts S1x2048) (t l : Fin 2048) :
    logit (shapeCast S2048x2048 (val_main_v202 (F := Ideal) x1 x2 x3 x8) hq) (val_main_v211 (F := Ideal) x0 x2 x4 x5 x6 x8)
        (shapeCast S1x2048 (val_main_v209 (F := Ideal) x0 x2 x4 x5 x6 x8) hs) (val_main_v217 (F := Ideal) x0 x1 x2 x3 x7 x8) t l
      = val_main_v224 (F := Ideal) x0 x1 x2 x3 x4 x5 x6 x7 x8 (ix2 t l) := by
  rw [logit_apply]
  refine Finset.sum_congr rfl fun h _ => ?_
  unfold term
  refine congrArg₂ (fun a b : EReal => a * b) (congrArg (fun a : EReal => max a 0) (congrArg₂ (fun a b : EReal => a * b)
    (Finset.sum_congr rfl fun d _ => congrArg₂ (fun a b : EReal => a * b) ?_ rfl) ?_)) rfl
  · refine shapeCast_apply _ hq _ (ix3 t h d) ?_
    rw [Shape.rowMajor_val_three, Shape.rowMajor_val_two]
    show (t.val * 16 + h.val) * 128 + d.val = t.val * 2048 + (128 * h.val + d.val)
    omega
  · refine shapeCast_apply _ hs _ (ix2 l (0 : Fin 1)) ?_
    rw [Shape.rowMajor_val_two, Shape.rowMajor_val_two]
    show l.val * 1 + 0 = 0 * 2048 + l.val
    omega

/-- The reference's mask: a lane not past the row. -/
theorem mask_apply (t l : Fin 2048) :
    val_main_v231 (F := Ideal) (ix2 t l) = if l.val ≤ t.val then 1#1 else 0#1 := by
  have e : val_main_v231 (F := Ideal) (ix2 t l) = IntOp.cmpi .sle (BitVec.ofNat 32 l.val) (BitVec.ofNat 32 t.val) := by
    show IntOp.cmpi .sle (val_main_v229 (F := Ideal) (ix2 t l)) (val_main_v230 (F := Ideal) (ix2 t l)) = _
    rw [val_main_v229_apply, val_main_v230_apply, val_main_v226_apply, val_main_v228_apply]
    rfl
  have n : ∀ a : Fin 2048, (BitVec.ofNat 32 a.val).toInt = (a.val : Int) := fun a => by
    have n : (BitVec.ofNat 32 a.val).toNat = a.val := by rw [BitVec.toNat_ofNat]; omega
    rw [BitVec.toInt_eq_toNat_of_lt (by omega), n]
  rw [e]
  show BitVec.ofBool ((BitVec.ofNat 32 l.val).sle (BitVec.ofNat 32 t.val)) = _
  unfold BitVec.sle
  rw [n, n]
  by_cases c : l.val ≤ t.val
  · rw [if_pos c, decide_eq_true (by omega)]; rfl
  · rw [if_neg c, decide_eq_false (by omega)]; rfl

/-- The reference's masked row. -/
theorem masked_apply (t l : Fin 2048) :
    val_main_v232 (F := Ideal) x0 x1 x2 x3 x4 x5 x6 x7 x8 (ix2 t l)
      = if l.val ≤ t.val then val_main_v224 (F := Ideal) x0 x1 x2 x3 x4 x5 x6 x7 x8 (ix2 t l)
        else Ideal.ofBits .f32 0xF149F2CA#32 := by
  show Scalar.select (val_main_v231 (F := Ideal) (ix2 t l)) _ (val_main_call1_v1 (F := Ideal) (ix2 t l)) = _
  rw [mask_apply]
  by_cases c : l.val ≤ t.val
  · rw [if_pos c, if_pos c, select_one]
  · rw [if_neg c, if_neg c, select_zero]; rfl

end Cert.Logits
-- ==== Proof.KernelRun.lean ====
/-
  The kernel's run: what its results hold at the end, in terms of the reference's own stages.
-/
module

public import proofs.«01_k».proof.Proof.HostLine
public import proofs.«01_k».proof.Proof.Logits
public import proofs.«01_k».proof.Proof.Gen.KernelIdeal.Frame

@[expose] public section

set_option maxRecDepth 16384

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)
open Cert.KernelIdeal Cert.KernelIdeal.Gen Cert.ReferenceIdeal.Read Cert.Regions

noncomputable section

namespace Cert.KernelRun

local notation "𝕄" => MT nD τ sig Unit (Elt Ideal) ℕ (UR sig nD τ) ℕ

variable (m : (ℓ : Loc nD τ sig) → Buf (Elt Ideal) ℓ) (ρ : Dev nD → PrngReg)

/-- The second region's array of logits at these arguments, in the reference's stages. -/
def allLogits (x0 : (⟨S2048x2048, .f32⟩ : BufTy).Contents (Elt Ideal)) (x1 : (⟨S2048x1536, .f32⟩ : BufTy).Contents (Elt Ideal))
  (x2 : (⟨S2048, .i32⟩ : BufTy).Contents (Elt Ideal)) (x3 : (⟨S1536x2048, .f32⟩ : BufTy).Contents (Elt Ideal))
  (x4 : (⟨S2048x128, .f32⟩ : BufTy).Contents (Elt Ideal)) (x5 x6 : (⟨S128, .f32⟩ : BufTy).Contents (Elt Ideal))
  (x7 : (⟨S2048x16, .f32⟩ : BufTy).Contents (Elt Ideal)) (x8 : (⟨S8192x64, .f32⟩ : BufTy).Contents (Elt Ideal)) : S2048x2048.Idx → EReal :=
  logits (shapeCast S2048x2048 (val_main_v202 (F := Ideal) x1 x2 x3 x8) shapeCasts_S2048x16x128_S2048x2048)
    (val_main_v211 (F := Ideal) x0 x2 x4 x5 x6 x8)
    (shapeCast S1x2048 (val_main_v209 (F := Ideal) x0 x2 x4 x5 x6 x8) shapeCasts_S2048x1_S1x2048)
    (val_main_v217 (F := Ideal) x0 x1 x2 x3 x7 x8)

section Reads

variable (c : Dev nD) (x0 : (⟨S2048x2048, .f32⟩ : BufTy).Contents (Elt Ideal)) (x1 : (⟨S2048x1536, .f32⟩ : BufTy).Contents (Elt Ideal))
  (x2 : (⟨S2048, .i32⟩ : BufTy).Contents (Elt Ideal)) (x3 : (⟨S1536x2048, .f32⟩ : BufTy).Contents (Elt Ideal))
  (x4 : (⟨S2048x128, .f32⟩ : BufTy).Contents (Elt Ideal)) (x5 x6 : (⟨S128, .f32⟩ : BufTy).Contents (Elt Ideal))
  (x7 : (⟨S2048x16, .f32⟩ : BufTy).Contents (Elt Ideal)) (x8 : (⟨S8192x64, .f32⟩ : BufTy).Contents (Elt Ideal))
  (h0 : m ((c : Thread nD τ).loc main_arg0) = x0) (h1 : m ((c : Thread nD τ).loc main_arg1) = x1)
  (h2 : m ((c : Thread nD τ).loc main_arg2) = x2) (h3 : m ((c : Thread nD τ).loc main_arg3) = x3)
  (h4 : m ((c : Thread nD τ).loc main_arg4) = x4) (h5 : m ((c : Thread nD τ).loc main_arg5) = x5)
  (h6 : m ((c : Thread nD τ).loc main_arg6) = x6) (h7 : m ((c : Thread nD τ).loc main_arg7) = x7)
  (h8 : m ((c : Thread nD τ).loc main_arg8) = x8)

/-- An argument before the host line. -/
theorem launched (a : Ref sig .tc) (ha : a ∈ argRefs) : W0 m ρ c (Proc.devRef .tc a) = m ((c : Thread nD τ).loc a) :=
  W0_args m ρ c a ha

include h0 h4 h5 h6 in
/-- The normalised keys the first region reads. -/
theorem read_keys : V1 m ρ c main_v136 = val_main_v26 (F := Ideal) x0 x4 x5 x6 :=
  HostLine.line_keys (W0 m ρ c) x0 x4 x5 x6 ((launched m ρ c main_arg0 (by decide)).trans h0)
    ((launched m ρ c main_arg4 (by decide)).trans h4) ((launched m ρ c main_arg5 (by decide)).trans h5)
    ((launched m ρ c main_arg6 (by decide)).trans h6)

include h2 h8 in
/-- The angles the first region reads. -/
theorem read_angles : V1 m ρ c main_v6 = val_main_v33 (F := Ideal) x2 x8 :=
  HostLine.line_angles (W0 m ρ c) x2 x8 ((launched m ρ c main_arg2 (by decide)).trans h2)
    ((launched m ρ c main_arg8 (by decide)).trans h8)

include h0 h2 h4 h5 h6 h8 in
/-- The quantised keys the first region leaves. -/
theorem left_keys : W2 m ρ c (Proc.devRef .tc main_call0_v0_0) = val_main_v211 (F := Ideal) x0 x2 x4 x5 x6 x8 := by
  refine (W2_arr m ρ c 2).trans ((final0_2 (V1 m ρ) c).trans ?_)
  rw [read_keys m ρ c x0 x4 x5 x6 h0 h4 h5 h6, read_angles m ρ c x2 x8 h2 h8]
  exact Logits.keys_eq x0 x2 x4 x5 x6 x8

include h0 h2 h4 h5 h6 h8 in
/-- The scales the first region leaves. -/
theorem left_scales : W2 m ρ c (Proc.devRef .tc main_call0_v0_1) = val_main_v209 (F := Ideal) x0 x2 x4 x5 x6 x8 := by
  refine (W2_arr m ρ c 3).trans ((final0_3 (V1 m ρ) c).trans ?_)
  rw [read_keys m ρ c x0 x4 x5 x6 h0 h4 h5 h6, read_angles m ρ c x2 x8 h2 h8]
  exact Logits.scales_eq x0 x2 x4 x5 x6 x8

include h0 h2 h4 h5 h6 h8 in
/-- The keys the second region reads. -/
theorem read_left_keys : V3 m ρ c main_call0_v0_0 = val_main_v211 (F := Ideal) x0 x2 x4 x5 x6 x8 :=
  (W3_of m ρ c main_call0_v0_0 (by decide)).trans (left_keys m ρ c x0 x2 x4 x5 x6 x8 h0 h2 h4 h5 h6 h8)

include h0 h2 h4 h5 h6 h8 in
/-- The scales the second region reads, as one row. -/
theorem read_left_scales : V3 m ρ c main_call0_v1
    = shapeCast S1x2048 (val_main_v209 (F := Ideal) x0 x2 x4 x5 x6 x8) shapeCasts_S2048x1_S1x2048 := by
  have e : V3 m ρ c main_call0_v1
      = shapeCast S1x2048 (W2 m ρ c (Proc.devRef .tc main_call0_v0_1) : S2048x1.Idx → EReal)
        shapeCasts_S2048x1_S1x2048 := by
    show after hostOps1 (W2 m ρ c) (Proc.devRef .tc main_call0_v1) = _
    generalize W2 m ρ c = U
    after_reads_simp
    rfl
  rw [e, left_scales m ρ c x0 x2 x4 x5 x6 x8 h0 h2 h4 h5 h6 h8]

include h1 h2 h3 h8 in
/-- The queries the second region reads. -/
theorem read_queries : V3 m ρ c main_v105
    = shapeCast S2048x2048 (val_main_v202 (F := Ideal) x1 x2 x3 x8) shapeCasts_S2048x16x128_S2048x2048 :=
  (W3_of m ρ c main_v105 (by decide)).trans <| (W2_of m ρ c main_v105 (by decide)).trans <|
    HostLine.line_query (W0 m ρ c) x1 x2 x3 x8 ((launched m ρ c main_arg1 (by decide)).trans h1)
      ((launched m ρ c main_arg2 (by decide)).trans h2) ((launched m ρ c main_arg3 (by decide)).trans h3)
      ((launched m ρ c main_arg8 (by decide)).trans h8)

include h0 h1 h2 h3 h7 h8 in
/-- The weights the second region reads. -/
theorem read_weights : V3 m ρ c main_v111 = val_main_v217 (F := Ideal) x0 x1 x2 x3 x7 x8 :=
  (W3_of m ρ c main_v111 (by decide)).trans <| (W2_of m ρ c main_v111 (by decide)).trans <|
    HostLine.line_weights (W0 m ρ c) x0 x1 x2 x3 x7 x8 ((launched m ρ c main_arg0 (by decide)).trans h0)
      ((launched m ρ c main_arg1 (by decide)).trans h1) ((launched m ρ c main_arg2 (by decide)).trans h2)
      ((launched m ρ c main_arg3 (by decide)).trans h3) ((launched m ρ c main_arg7 (by decide)).trans h7)
      ((launched m ρ c main_arg8 (by decide)).trans h8)

include h0 h1 h2 h3 h4 h5 h6 h7 h8 in
/-- The logits the second region leaves. -/
theorem left_logits : W4 m ρ c (Proc.devRef .tc main_v137) = allLogits x0 x1 x2 x3 x4 x5 x6 x7 x8 := by
  refine (W4_arr m ρ c 4).trans ((final1_4 (V3 m ρ) c).trans ?_)
  rw [read_queries m ρ c x1 x2 x3 x8 h1 h2 h3 h8, read_left_keys m ρ c x0 x2 x4 x5 x6 x8 h0 h2 h4 h5 h6 h8,
    read_left_scales m ρ c x0 x2 x4 x5 x6 x8 h0 h2 h4 h5 h6 h8, read_weights m ρ c x0 x1 x2 x3 x7 x8 h0 h1 h2 h3 h7 h8]
  rfl

end Reads

/-- The largest entries of each row, and where they lie. -/
abbrev tops (z : S2048x2048.Idx → EReal) : (S2048x512.Idx → EReal) × (S2048x512.Idx → BitVec 32) :=
  Host.topK (α := Ideal .f32) S2048x512 1 (FloatOps.cmpfTotal (F := Ideal) (φ := .f32) .gt) z sliceFits_S2048x2048_S2048x512

/-- The largest entries, those below the threshold replaced. -/
def cleaned (z : S2048x2048.Idx → EReal) : S2048x512.Idx → EReal :=
  fun i => if (tops z).1 i < Ideal.ofBits .f32 0xEFA18F08#32 then Ideal.ofBits .f32 0xF149F2CA#32 else (tops z).1 i

/-- The last host lines, from any contents: the indices. -/
theorem tail_indices (U : Valuation τ sig (Elt Ideal)) :
    after hostOps2_1 (after hostOps2 U) (Proc.devRef .tc main_indices) = (tops (U (Proc.devRef .tc main_v137))).2 := by
  after_reads_simp

/-- The last host lines, from any contents: the values. -/
theorem tail_values (U : Valuation τ sig (Elt Ideal)) :
    after hostOps2_1 (after hostOps2 U) (Proc.devRef .tc main_v140) = cleaned (U (Proc.devRef .tc main_v137)) := by
  after_reads_simp
  funext i
  show Scalar.select (Ideal.cmp .olt ((tops (U (Proc.devRef .tc main_v137))).1 i) (Ideal.ofBits .f32 0xEFA18F08#32))
    (Ideal.ofBits .f32 0xF149F2CA#32) ((tops (U (Proc.devRef .tc main_v137))).1 i) = _
  unfold cleaned
  generalize (tops (U (Proc.devRef .tc main_v137))).1 i = y
  by_cases n : y < Ideal.ofBits .f32 0xEFA18F08#32
  · rw [if_pos n, Ideal.cmp, decide_eq_true n]; rfl
  · rw [if_neg n, Ideal.cmp, decide_eq_false n]; rfl

set_option backward.isDefEq.respectTransparency.types false in
/-- Every run ends with the last boundary's contents in the two results, the arguments as launched. -/
theorem run : θ_run defs (onTc (τ := τ) (main (F := Ideal))) ⟨m, fun _ => 0, ρ⟩ (fun r => ∀ c : Dev nD,
      r.2.mem ((c.tc : Thread nD τ).loc main_v140) = W6 m ρ c (Proc.devRef .tc main_v140)
      ∧ r.2.mem ((c.tc : Thread nD τ).loc main_indices) = W6 m ρ c (Proc.devRef .tc main_indices)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v140 (by decide)), h c _ (mem_uc main_indices (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The indices at the end. -/
theorem end_indices (c : Dev nD) (x0 x1 x2 x3 x4 x5 x6 x7 x8)
    (h : W4 m ρ c (Proc.devRef .tc main_v137) = allLogits x0 x1 x2 x3 x4 x5 x6 x7 x8) :
    W6 m ρ c (Proc.devRef .tc main_indices) = (tops (allLogits x0 x1 x2 x3 x4 x5 x6 x7 x8)).2 :=
  (tail_indices (W4 m ρ c)).trans (by rw [h])

/-- The values at the end. -/
theorem end_values (c : Dev nD) (x0 x1 x2 x3 x4 x5 x6 x7 x8)
    (h : W4 m ρ c (Proc.devRef .tc main_v137) = allLogits x0 x1 x2 x3 x4 x5 x6 x7 x8) :
    W6 m ρ c (Proc.devRef .tc main_v140) = cleaned (allLogits x0 x1 x2 x3 x4 x5 x6 x7 x8) :=
  (tail_values (W4 m ρ c)).trans (by rw [h])

end Cert.KernelRun
-- ==== Proof.Threshold.lean ====
/-
  What the precondition says of the reference: its logit at every lane not past the row is at least the threshold.
-/
module

public import proofs.«01_k».proof.Proof.Logits
public import proofs.«01_k».proof.Pre_logits_above_threshold

@[expose] public section

open Idealize.ShloMosaic Idealize.ShloMosaic.ValueIdx Cert.ReferenceIdeal.Read Cert.Pre_logits_above_threshold

noncomputable section

namespace Cert.Threshold

/-- The shape relations of the precondition's program. -/
theorem facts : Cert.Pre_logits_above_threshold.Facts := by
  constructor <;> decide

local instance : Cert.Pre_logits_above_threshold.Facts := facts

variable (x0 : (⟨S2048x2048, .f32⟩ : BufTy).Contents (Elt Ideal)) (x1 : (⟨S2048x1536, .f32⟩ : BufTy).Contents (Elt Ideal))
  (x2 : (⟨S2048, .i32⟩ : BufTy).Contents (Elt Ideal)) (x3 : (⟨S1536x2048, .f32⟩ : BufTy).Contents (Elt Ideal))
  (x4 : (⟨S2048x128, .f32⟩ : BufTy).Contents (Elt Ideal)) (x5 x6 : (⟨S128, .f32⟩ : BufTy).Contents (Elt Ideal))
  (x7 : (⟨S2048x16, .f32⟩ : BufTy).Contents (Elt Ideal)) (x8 : (⟨S8192x64, .f32⟩ : BufTy).Contents (Elt Ideal))

/-- The products of a head's query with every key, before their sum. -/
def products (q : FVec Ideal S2048x16x128 .f32) (k : FVec Ideal S2048x128 .f32) : FVec Ideal S2048x16x2048x128 .f32 :=
  mulf (broadcastInDim S2048x16x2048x128 ![0, 1, 2, 3] Facts.bcast_S2048x16x1x128_S2048x16x2048x128_0_1_2_3
      (broadcastInDim S2048x16x1x128 ![0, 1, 3] Facts.bcast_S2048x16x128_S2048x16x1x128_0_1_3 q))
    (broadcastInDim S2048x16x2048x128 ![0, 1, 2, 3] Facts.bcast_S1x1x2048x128_S2048x16x2048x128_0_1_2_3
      (broadcastInDim S1x1x2048x128 ![2, 3] Facts.bcast_S2048x128_S1x1x2048x128_2_3 k))

/-- The precondition's last stretch takes the reference's scales, weights, queries and keys. -/
theorem chain :
    fn (F := Ideal) x0 x1 x2 x3 x4 x5 x6 x7 x8
      = fn_part10 (F := Ideal) (val_main_v209 (F := Ideal) x0 x2 x4 x5 x6 x8) (val_main_v217 (F := Ideal) x0 x1 x2 x3 x7 x8) (products (val_main_v202 (F := Ideal) x1 x2 x3 x8) (val_main_v211 (F := Ideal) x0 x2 x4 x5 x6 x8)) (constant (F := Ideal) S_ .f32 0x00000000#32) := rfl

/-- The products, one by one. -/
theorem products_apply (q : FVec Ideal S2048x16x128 .f32) (k : FVec Ideal S2048x128 .f32) (t : Fin 2048) (h : Fin 16)
    (l : Fin 2048) (d : Fin 128) : products q k (ix4 t h l d) = (q (ix3 t h d) : EReal) * k (ix2 l d) := by
  unfold products
  refine congrArg₂ (fun a b : EReal => a * b) ?_ ?_
  · refine (broadcastInDim_apply _ Facts.bcast_S2048x16x1x128_S2048x16x2048x128_0_1_2_3 _ (ix4 t h l d)
      (ix4 t h (0 : Fin 1) d) (fun a => ?_)).trans ?_
    · match a with
      | ⟨0, _⟩ => rfl
      | ⟨1, _⟩ => rfl
      | ⟨2, _⟩ => rfl
      | ⟨3, _⟩ => rfl
    · refine broadcastInDim_apply _ Facts.bcast_S2048x16x128_S2048x16x1x128_0_1_3 _ _ (ix3 t h d) (fun a => ?_)
      match a with
      | ⟨0, _⟩ => rfl
      | ⟨1, _⟩ => rfl
      | ⟨2, _⟩ => rfl
  · refine (broadcastInDim_apply _ Facts.bcast_S1x1x2048x128_S2048x16x2048x128_0_1_2_3 _ (ix4 t h l d)
      (ix4 (0 : Fin 1) (0 : Fin 1) l d) (fun a => ?_)).trans ?_
    · match a with
      | ⟨0, _⟩ => rfl
      | ⟨1, _⟩ => rfl
      | ⟨2, _⟩ => rfl
      | ⟨3, _⟩ => rfl
    · refine broadcastInDim_apply _ Facts.bcast_S2048x128_S1x1x2048x128_2_3 _ _ (ix2 l d) (fun a => ?_)
      match a with
      | ⟨0, _⟩ => rfl
      | ⟨1, _⟩ => rfl

/-- The zero a sum begins with. -/
abbrev zero : FVec Ideal S_ .f32 := constant (F := Ideal) S_ .f32 0x00000000#32

/-- A head's score: the sum of its products. -/
theorem sum_products (p : FVec Ideal S2048x16x2048x128 .f32) (t : Fin 2048) (h : Fin 16) (l : Fin 2048) :
    Host.reduceAdd p zero Facts.reducesTo_S2048x16x2048x128_S2048x16x2048_d3 Facts.h_S_ (ix3 t h l)
      = ∑ d : Fin 128, (p (ix4 t h l d) : EReal) := by
  simp only [Host.reduceAdd, Ideal.hostReduceAdd_def]
  rw [Ideal.hostReduceAdd_single Facts.reducesTo_S2048x16x2048x128_S2048x16x2048_d3 (by decide)]
  refine (congrArg (fun z : EReal => z + _) (Ideal.ofBits_zero_f32)).trans ?_
  rw [zero_add]
  refine Finset.sum_congr rfl fun d _ => congrArg p (funext fun a => Fin.ext ?_)
  match a with
  | ⟨0, _⟩ => rfl
  | ⟨1, _⟩ => rfl
  | ⟨2, _⟩ => rfl
  | ⟨3, _⟩ => rfl

/-- A logit: the sum over the heads. -/
theorem sum_heads (p : FVec Ideal S2048x16x2048 .f32) (t l : Fin 2048) :
    Host.reduceAdd p zero Facts.reducesTo_S2048x16x2048_S2048x2048_d1 Facts.h_S_ (ix2 t l)
      = ∑ h : Fin 16, (p (ix3 t h l) : EReal) := by
  simp only [Host.reduceAdd, Ideal.hostReduceAdd_def]
  rw [Ideal.hostReduceAdd_single Facts.reducesTo_S2048x16x2048_S2048x2048_d1 (by decide)]
  refine (congrArg (fun z : EReal => z + _) (Ideal.ofBits_zero_f32)).trans ?_
  rw [zero_add]
  refine Finset.sum_congr rfl fun d _ => congrArg p (funext fun a => Fin.ext ?_)
  match a with
  | ⟨0, _⟩ => rfl
  | ⟨1, _⟩ => rfl
  | ⟨2, _⟩ => rfl

/-- The scale of a lane, spread over the rows and the heads. -/
def spreadScale (s : FVec Ideal S2048x1 .f32) : FVec Ideal S2048x16x2048 .f32 :=
  broadcastInDim S2048x16x2048 ![0, 1, 2] Facts.bcast_S1x1x2048_S2048x16x2048_0_1_2
    (broadcastInDim S1x1x2048 ![2] Facts.bcast_S2048_S1x1x2048_2 (shapeCast S2048 s Facts.shapeCasts_S2048x1_S2048))

/-- Spread, the scale at a lane. -/
theorem spreadScale_apply (s : FVec Ideal S2048x1 .f32) (t : Fin 2048) (h : Fin 16) (l : Fin 2048) :
    spreadScale s (ix3 t h l) = s (ix2 l (0 : Fin 1)) := by
  unfold spreadScale
  refine (broadcastInDim_apply _ Facts.bcast_S1x1x2048_S2048x16x2048_0_1_2 _ (ix3 t h l)
    (ix3 (0 : Fin 1) (0 : Fin 1) l) (fun a => ?_)).trans ?_
  · match a with
    | ⟨0, _⟩ => rfl
    | ⟨1, _⟩ => rfl
    | ⟨2, _⟩ => rfl
  · refine (broadcastInDim_apply _ Facts.bcast_S2048_S1x1x2048_2 _ _ (ix1 l) (fun a => ?_)).trans ?_
    · match a with
      | ⟨0, _⟩ => rfl
    · refine shapeCast_apply s Facts.shapeCasts_S2048x1_S2048 (ix1 l) (ix2 l (0 : Fin 1)) ?_
      rw [Shape.rowMajor_val_one, Shape.rowMajor_val_two]
      show l.val * 1 + 0 = l.val
      omega

/-- The weight of a row's head, spread over the lanes. -/
def spreadWeight (w : FVec Ideal S2048x16 .f32) : FVec Ideal S2048x16x2048 .f32 :=
  broadcastInDim S2048x16x2048 ![0, 1, 2] Facts.bcast_S2048x16x1_S2048x16x2048_0_1_2
    (broadcastInDim S2048x16x1 ![0, 1] Facts.bcast_S2048x16_S2048x16x1_0_1 w)

/-- Spread, the weight at a head. -/
theorem spreadWeight_apply (w : FVec Ideal S2048x16 .f32) (t : Fin 2048) (h : Fin 16) (l : Fin 2048) :
    spreadWeight w (ix3 t h l) = w (ix2 t h) := by
  unfold spreadWeight
  refine (broadcastInDim_apply _ Facts.bcast_S2048x16x1_S2048x16x2048_0_1_2 _ (ix3 t h l)
    (ix3 t h (0 : Fin 1)) (fun a => ?_)).trans ?_
  · match a with
    | ⟨0, _⟩ => rfl
    | ⟨1, _⟩ => rfl
    | ⟨2, _⟩ => rfl
  · refine broadcastInDim_apply _ Facts.bcast_S2048x16_S2048x16x1_0_1 _ _ (ix2 t h) (fun a => ?_)
    match a with
    | ⟨0, _⟩ => rfl
    | ⟨1, _⟩ => rfl

/-- What the precondition's last stretch sums over the heads. -/
def summand (s : FVec Ideal S2048x1 .f32) (w : FVec Ideal S2048x16 .f32) (p : FVec Ideal S2048x16x2048x128 .f32) :
    FVec Ideal S2048x16x2048 .f32 :=
  mulf (fn_relu (F := Ideal) (mulf
    (Host.reduceAdd p zero Facts.reducesTo_S2048x16x2048x128_S2048x16x2048_d3 Facts.h_S_) (spreadScale s))) (spreadWeight w)

/-- What is summed, at a head: the rectified, scaled score by the weight. -/
theorem summand_apply (s : FVec Ideal S2048x1 .f32) (w : FVec Ideal S2048x16 .f32) (p : FVec Ideal S2048x16x2048x128 .f32)
    (t : Fin 2048) (h : Fin 16) (l : Fin 2048) : summand s w p (ix3 t h l)
      = max ((∑ d : Fin 128, (p (ix4 t h l d) : EReal)) * s (ix2 l (0 : Fin 1))) 0 * w (ix2 t h) := by
  unfold summand
  refine congrArg₂ (fun a b : EReal => a * b) ?_ (spreadWeight_apply w t h l)
  unfold fn_relu
  refine congrArg₂ (fun a b : EReal => max a b) ?_ Ideal.ofBits_zero_f32
  exact congrArg₂ (fun a b : EReal => a * b) (sum_products p t h l) (spreadScale_apply s t h l)

/-- The last stretch answers yes at a lane not past the row only when the logit is at least the threshold. -/
theorem of_part10 (s : FVec Ideal S2048x1 .f32) (w : FVec Ideal S2048x16 .f32) (p : FVec Ideal S2048x16x2048x128 .f32)
    (e : fn_part10 (F := Ideal) s w p zero = fun _ => 1#1) (t l : Fin 2048) (h : l.val ≤ t.val) :
    Ideal.ofBits .f32 0xEFA18F08#32 ≤ ∑ h : Fin 16,
      max ((∑ d : Fin 128, (p (ix4 t h l d) : EReal)) * s (ix2 l (0 : Fin 1))) 0 * w (ix2 t h) := by
  have e' := congrFun e (ix2 t l)
  have f : fn_part10 (F := Ideal) s w p zero (ix2 t l)
      = Ideal.cmp .oge (Scalar.select (val_main_v231 (F := Ideal) (ix2 t l))
          (Host.reduceAdd (summand s w p) zero Facts.reducesTo_S2048x16x2048_S2048x2048_d1 Facts.h_S_ (ix2 t l))
          (zero (Shape.Idx.first Facts.h_S_))) (Ideal.ofBits .f32 0xEFA18F08#32) := rfl
  rw [f, Logits.mask_apply, if_pos h, select_one, sum_heads] at e'
  have g : Ideal.ofBits .f32 0xEFA18F08#32 ≤ ∑ h : Fin 16, (summand s w p (ix3 t h l) : EReal) := by
    by_contra n
    rw [Ideal.cmp, decide_eq_false n] at e'
    exact absurd e' (by decide)
  refine g.trans (le_of_eq (Finset.sum_congr rfl fun h _ => summand_apply s w p t h l))

/-- Where the precondition holds, the reference's logit at a lane not past the row is at least the threshold. -/
theorem logit_ge (e : fn (F := Ideal) x0 x1 x2 x3 x4 x5 x6 x7 x8 = fun _ => 1#1) (t l : Fin 2048) (h : l.val ≤ t.val) :
    Ideal.ofBits .f32 0xEFA18F08#32 ≤ val_main_v224 (F := Ideal) x0 x1 x2 x3 x4 x5 x6 x7 x8 (ix2 t l) := by
  rw [chain] at e
  refine (of_part10 _ _ _ e t l h).trans (le_of_eq ?_)
  refine Eq.trans ?_ (Logits.logit_apply x0 x1 x2 x3 x4 x5 x6 x7 x8 t l).symm
  refine Finset.sum_congr rfl fun h _ => ?_
  refine congrArg₂ (fun a b : EReal => a * b) ?_ rfl
  refine congrArg₂ (fun a b : EReal => max a b) ?_ rfl
  refine congrArg₂ (fun a b : EReal => a * b) ?_ rfl
  exact Finset.sum_congr rfl fun d _ => products_apply _ _ t h l d

end Cert.Threshold
-- ==== Proof.TopK.lean ====
/-
  The stable sort behind the top 512 of a row, and why the two ways of masking a row agree.

  The kernel's row holds, at the masked positions, values that fall with the position; the reference's row holds one
  constant there. Both lie below every unmasked value, and the masked positions come last in the row. A stable
  insertion sort only ever asks of two positions whether the LATER one goes first, and to that question the two rows
  give the same answer at every pair. So the two sorts permute alike; the values differ only where a masked position
  was taken, and there one threshold tells them apart.
-/
module

public import Idealize.ShloMosaic.PureOps
public import Idealize.ShloMosaic.PureOps.Ideal
public import Idealize.ShloMosaic.Lib.SortFacts
public import Idealize.ShloMosaic.Lib.ValueIdxCore
public import Idealize.ShloMosaic.Lib.Pipeline.Value

@[expose] public section

open Idealize.ShloMosaic Idealize.ShloMosaic.ValueIdx

noncomputable section

namespace Cert.TopRows

/-- Two relations that answer alike whether a later position goes before an earlier one sort an increasing list alike. -/
theorem stableSort_later {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b ?_
    exact hl.1 b ((perm_stableSort R' l).mem_iff.mp hb)

/-- The same for the whole range of positions: the position each place takes its element from is the same. -/
theorem sortedFrom_later {n : Nat} (R R' : Fin n → Fin n → Bool) (h : ∀ a b, a < b → R b a = R' b a) :
    sortedFrom R = sortedFrom R' := by
  funext k
  unfold sortedFrom
  have e : sortPositions n R = sortPositions n R' :=
    stableSort_later R R' h _ (List.pairwise_lt_finRange n)
  rw [List.get_of_eq e]
  congr 1

/-- The greater-than of the ideal total order is the order's own. -/
theorem gt_eq (x y : Ideal .f32) :
    (FloatOps.cmpfTotal (F := Ideal) (φ := .f32) .gt x y == 1#1) = decide (y < x) := by
  show ((BitVec.ofBool (decide (x > y))) == 1#1) = decide (y < x)
  by_cases h : y < x <;> simp [h]

/-- The position of the sorted array that a place of the leading columns is cut from. -/
abbrev source {N K : Nat} (hs : (⟨2, ![N, N]⟩ : Shape).Slices (fun _ => 0) ⟨2, ![N, K]⟩)
    (i : (⟨2, ![N, K]⟩ : Shape).Idx) : (⟨2, ![N, N]⟩ : Shape).Idx :=
  fun a => ⟨0 + (i (a.cast hs.1.symm)).val, by
    have := hs.2 a; have h2 := (i (a.cast hs.1.symm)).isLt; omega⟩

/-- The element `k` of the row that `j` lies in. -/
def entry {N : Nat} (z : (⟨2, ![N, N]⟩ : Shape).Idx → Ideal .f32) (j : (⟨2, ![N, N]⟩ : Shape).Idx) (k : Fin N) :
    Ideal .f32 := z (j.along (s := ⟨2, ![N, N]⟩) (1 : Fin 2) k)

/-- The position along its row that a stable sort, greatest first, puts at a place. -/
def pick {N : Nat} (z : (⟨2, ![N, N]⟩ : Shape).Idx → Ideal .f32) (j : (⟨2, ![N, N]⟩ : Shape).Idx) : Fin N :=
  sortedFrom (fun k k' : Fin N => FloatOps.cmpfTotal (F := Ideal) (φ := .f32) .gt
    (z (j.along (s := ⟨2, ![N, N]⟩) (1 : Fin 2) k)) (z (j.along (s := ⟨2, ![N, N]⟩) (1 : Fin 2) k')) == 1#1) (j 1)

/-- A row's leading sorted values and indices, read at a place. -/
theorem topK_read {N K : Nat} (z : (⟨2, ![N, N]⟩ : Shape).Idx → Ideal .f32)
    (hs : (⟨2, ![N, N]⟩ : Shape).Slices (fun _ => 0) ⟨2, ![N, K]⟩) (i : (⟨2, ![N, K]⟩ : Shape).Idx) :
    (Host.topK ⟨2, ![N, K]⟩ 1 (FloatOps.cmpfTotal (F := Ideal) (φ := .f32) .gt) z hs).1 i
      = entry z (source hs i) (pick z (source hs i))
    ∧ (Host.topK ⟨2, ![N, K]⟩ 1 (FloatOps.cmpfTotal (F := Ideal) (φ := .f32) .gt) z hs).2 i
      = BitVec.ofNat 32 (pick z (source hs i)).val := by
  unfold Host.topK Host.sort2
  simp only [dif_pos (show 1 < (⟨2, ![N, N]⟩ : Shape).rank from Nat.lt_succ_self 1)]
  exact ⟨rfl, rfl⟩

/-- The indices and values of the leading columns of the stably sorted rows, under two maskings of one array. -/
theorem masked {N K : Nat} (x y L : (⟨2, ![N, N]⟩ : Shape).Idx → Ideal .f32) (S : Fin N → EReal) (lo mid : EReal)
    (hs : (⟨2, ![N, N]⟩ : Shape).Slices (fun _ => 0) ⟨2, ![N, K]⟩)
    (hx : ∀ i, x i = if (i 1).val ≤ (i 0).val then L i else S (i 1))
    (hy : ∀ i, y i = if (i 1).val ≤ (i 0).val then L i else lo)
    (hL : ∀ i, (i 1).val ≤ (i 0).val → mid ≤ L i)
    (hlo : lo < mid) (hS : ∀ a, S a < mid) (hmono : ∀ a b : Fin N, a < b → S b < S a) :
    (Host.topK ⟨2, ![N, K]⟩ 1 (FloatOps.cmpfTotal (F := Ideal) (φ := .f32) .gt) x hs).2
      = (Host.topK ⟨2, ![N, K]⟩ 1 (FloatOps.cmpfTotal (F := Ideal) (φ := .f32) .gt) y hs).2
    ∧ ∀ i, (Host.topK ⟨2, ![N, K]⟩ 1 (FloatOps.cmpfTotal (F := Ideal) (φ := .f32) .gt) y hs).1 i
      = (if (Host.topK ⟨2, ![N, K]⟩ 1 (FloatOps.cmpfTotal (F := Ideal) (φ := .f32) .gt) x hs).1 i < mid then lo
          else (Host.topK ⟨2, ![N, K]⟩ 1 (FloatOps.cmpfTotal (F := Ideal) (φ := .f32) .gt) x hs).1 i) := by
  have key : ∀ j, pick x j = pick y j := by
    intro j
    refine congrFun ?_ (j 1)
    refine sortedFrom_later _ _ fun a b hab => ?_
    simp only [gt_eq]
    rw [decide_eq_decide]
    have e0 : ∀ k : Fin N, ((j.along (s := ⟨2, ![N, N]⟩) (1 : Fin 2) k) 0).val = (j 0).val := fun k => rfl
    have e1 : ∀ k : Fin N, (j.along (s := ⟨2, ![N, N]⟩) (1 : Fin 2) k) 1 = k := fun k => rfl
    rw [hx, hx, hy, hy]
    have la := hL (j.along (s := ⟨2, ![N, N]⟩) (1 : Fin 2) a)
    have lb := hL (j.along (s := ⟨2, ![N, N]⟩) (1 : Fin 2) b)
    rw [e0, e1] at la lb
    rw [e0, e0, e1, e1]
    have hab' : a.val < b.val := hab
    by_cases hb : b.val ≤ (j 0).val
    · rw [if_pos hb, if_pos (by omega), if_pos hb, if_pos (by omega)]
    · rw [if_neg hb, if_neg hb]
      by_cases ha : a.val ≤ (j 0).val
      · rw [if_pos ha, if_pos ha]
        exact ⟨fun h => absurd (h.trans (hS b)) (not_lt.mpr (la ha)),
          fun h => absurd (h.trans hlo) (not_lt.mpr (la ha))⟩
      · rw [if_neg ha, if_neg ha]
        exact ⟨fun h => absurd h (not_lt.mpr (hmono a b hab).le), fun h => absurd h (lt_irrefl _)⟩
  constructor
  · funext i
    rw [(topK_read x hs i).2, (topK_read y hs i).2, key]
  · intro i
    rw [(topK_read x hs i).1, (topK_read y hs i).1, ← key]
    have fin : ∀ q, y q = if x q < mid then lo else x q := by
      intro q
      rw [hx, hy]
      by_cases h : (q 1).val ≤ (q 0).val
      · rw [if_pos h, if_pos h, if_neg (not_lt.mpr (hL q h))]
      · rw [if_neg h, if_neg h]; exact (if_pos (hS (q 1))).symm
    exact fin _

end Cert.TopRows
-- ==== Proof.Equation.lean ====
/-
  The equation: the kernel's results are the reference's, where the precondition holds.
-/
module

public import proofs.«01_k».proof.Proof.KernelRun
public import proofs.«01_k».proof.Proof.Threshold
public import proofs.«01_k».proof.Proof.TopK

@[expose] public section

open Idealize.ShloMosaic Idealize.ShloMosaic.ValueIdx Cert.ReferenceIdeal Cert.ReferenceIdeal.Read
open Cert.Regions Cert.HeadSum Cert.KernelRun

noncomputable section

namespace Cert.Equation

local instance : Cert.Pre_logits_above_threshold.Facts := Threshold.facts

/-- The value the masked entries take. -/
theorem lo_eq : Ideal.ofBits .f32 0xF149F2CA#32 = ((-(13234890 * 2 ^ 76) : ℝ) : EReal) := by
  simp [Ideal.ofBits, Ideal.ieee, -EReal.coe_mul, -EReal.coe_neg]

/-- The threshold. -/
theorem mid_eq : Ideal.ofBits .f32 0xEFA18F08#32 = ((-(10587912 * 2 ^ 73) : ℝ) : EReal) := by
  simp [Ideal.ofBits, Ideal.ieee, -EReal.coe_mul, -EReal.coe_neg]

/-- The step between the kernel's masked entries. -/
theorem step_eq : Ideal.ofBits .f32 0x66800000#32 = ((2 ^ 78 : ℝ) : EReal) := by
  rw [show (2 ^ 78 : ℝ) = 302231454903657293676544 by norm_num]
  simp [Ideal.ofBits, Ideal.ieee, -EReal.coe_mul, -EReal.coe_neg]
  norm_num

/-- The kernel's entry at a lane past the row, as a real number. -/
theorem past_eq (l : Fin 2048) : past l = ((-(13234890 * 2 ^ 76) - (l.val : ℝ) * 2 ^ 78 : ℝ) : EReal) := by
  have n : (BitVec.ofNat 32 l.val).toInt = (l.val : Int) := by
    have n : (BitVec.ofNat 32 l.val).toNat = l.val := by rw [BitVec.toNat_ofNat]; omega
    rw [BitVec.toInt_eq_toNat_of_lt (by omega), n]
  have e : (FloatOps.sitofp (F := Ideal) .f32 (BitVec.ofNat 32 l.val) : EReal) = ((l.val : ℝ) : EReal) := by
    show (((BitVec.ofNat 32 l.val).toInt : ℝ) : EReal) = _
    rw [n]
    norm_num
  unfold past
  rw [lo_eq, step_eq, EReal.coe_sub, EReal.coe_mul]
  exact congrArg (fun z : EReal => _ - z * _) e

/-- The masked entries' value lies below the threshold. -/
theorem lo_lt : Ideal.ofBits .f32 0xF149F2CA#32 < Ideal.ofBits .f32 0xEFA18F08#32 := by
  rw [lo_eq, mid_eq, EReal.coe_lt_coe_iff]
  norm_num

/-- So does every entry of the kernel's at a lane past the row. -/
theorem past_lt (l : Fin 2048) : past l < Ideal.ofBits .f32 0xEFA18F08#32 := by
  rw [past_eq, mid_eq, EReal.coe_lt_coe_iff]
  have : (0 : ℝ) ≤ (l.val : ℝ) := Nat.cast_nonneg _
  nlinarith

/-- These entries fall with the lane. -/
theorem past_anti (a b : Fin 2048) (h : a < b) : past b < past a := by
  rw [past_eq, past_eq, EReal.coe_lt_coe_iff]
  have : (a.val : ℝ) < (b.val : ℝ) := Nat.cast_lt.mpr h
  nlinarith

variable (x0 : (⟨S2048x2048, .f32⟩ : BufTy).Contents (Elt Ideal)) (x1 : (⟨S2048x1536, .f32⟩ : BufTy).Contents (Elt Ideal))
  (x2 : (⟨S2048, .i32⟩ : BufTy).Contents (Elt Ideal)) (x3 : (⟨S1536x2048, .f32⟩ : BufTy).Contents (Elt Ideal))
  (x4 : (⟨S2048x128, .f32⟩ : BufTy).Contents (Elt Ideal)) (x5 x6 : (⟨S128, .f32⟩ : BufTy).Contents (Elt Ideal))
  (x7 : (⟨S2048x16, .f32⟩ : BufTy).Contents (Elt Ideal)) (x8 : (⟨S8192x64, .f32⟩ : BufTy).Contents (Elt Ideal))

/-- The kernel's array of logits: the reference's logits, and the falling entries past the row. -/
theorem allLogits_apply (i : S2048x2048.Idx) : allLogits x0 x1 x2 x3 x4 x5 x6 x7 x8 i
    = if (i 1).val ≤ (i 0).val then val_main_v224 (F := Ideal) x0 x1 x2 x3 x4 x5 x6 x7 x8 i else past (i 1) := by
  obtain ⟨t, l, rfl⟩ : ∃ (t l : Fin 2048), i = ix2 t l := ⟨i 0, i 1, eq_ix2 i⟩
  unfold allLogits logits
  rw [← Logits.logit_eq x0 x1 x2 x3 x4 x5 x6 x7 x8 Cert.KernelIdeal.Gen.shapeCasts_S2048x16x128_S2048x2048
    Cert.KernelIdeal.Gen.shapeCasts_S2048x1_S1x2048 t l]

/-- The two tops agree, the kernel's values after the replacement. -/
theorem tops_eq
    (e : Cert.Pre_logits_above_threshold.fn (F := Ideal) x0 x1 x2 x3 x4 x5 x6 x7 x8 = fun _ => 1#1) :
    (tops (allLogits x0 x1 x2 x3 x4 x5 x6 x7 x8)).2 = (tops (val_main_v232 (F := Ideal) x0 x1 x2 x3 x4 x5 x6 x7 x8)).2
    ∧ cleaned (allLogits x0 x1 x2 x3 x4 x5 x6 x7 x8) = (tops (val_main_v232 (F := Ideal) x0 x1 x2 x3 x4 x5 x6 x7 x8)).1 := by
  have k := TopRows.masked (N := 2048) (K := 512) (allLogits x0 x1 x2 x3 x4 x5 x6 x7 x8)
    (val_main_v232 (F := Ideal) x0 x1 x2 x3 x4 x5 x6 x7 x8) (val_main_v224 (F := Ideal) x0 x1 x2 x3 x4 x5 x6 x7 x8)
    past (Ideal.ofBits .f32 0xF149F2CA#32) (Ideal.ofBits .f32 0xEFA18F08#32)
    Cert.KernelIdeal.Gen.sliceFits_S2048x2048_S2048x512
    (allLogits_apply x0 x1 x2 x3 x4 x5 x6 x7 x8)
    (fun i => by
      obtain ⟨t, l, rfl⟩ : ∃ (t l : Fin 2048), i = ix2 t l := ⟨i 0, i 1, eq_ix2 i⟩
      exact Logits.masked_apply x0 x1 x2 x3 x4 x5 x6 x7 x8 t l)
    (fun i h => by
      obtain ⟨t, l, rfl⟩ : ∃ (t l : Fin 2048), i = ix2 t l := ⟨i 0, i 1, eq_ix2 i⟩
      exact Threshold.logit_ge x0 x1 x2 x3 x4 x5 x6 x7 x8 e t l h)
    lo_lt past_lt past_anti
  exact ⟨k.1, funext fun i => (k.2 i).symm⟩

end Cert.Equation
-- ==== Proof.lean ====
/-
  The proof of `Cert.Claim`: the programs' shape relations, their frames, and the equation of the idealized kernel with
  the idealized reference.

  The kernel's and the reference's sides meet in stages. The host line before the kernel's first region computes the
  reference's normalised keys, angles, quantised queries and weights (`HostLine`); the first region turns, transforms
  and quantises the keys, as the reference does (`KeyRow`, `KeyKernel`, `KeyReference`, `Butterfly`); the second region
  adds a row's logits over the heads in a tree, which is the reference's sum over the heads (`HeadSum`, `Regions`,
  `Logits`); the top 512 of the two masked rows are the same, the kernel's masked values being replaced afterwards
  (`TopK`, `Equation`), once the unmasked logits are known to be at least the threshold (`Threshold`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent

@[expose] public section

noncomputable section

namespace Cert.Proof

open Idealize.ShloMosaic Idealize.SL.Sem

local instance : Cert.Pre_logits_above_threshold.Facts := Threshold.facts

/-- The reference ends with its arguments as launched and, declaring no semaphore, with every counter at zero. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The reference's masked row, as the run states it, is the stage the other modules read. -/
theorem masked_row (m : (ℓ : Loc ReferenceIdeal.nD ReferenceIdeal.τ ReferenceIdeal.sig) → Buf (Elt Ideal) ℓ)
    (c : Dev ReferenceIdeal.nD) (x0 x1 x2 x3 x4 x5 x6 x7 x8)
    (h0 : m ((c.tc : Thread ReferenceIdeal.nD ReferenceIdeal.τ).loc ReferenceIdeal.main_arg0) = x0)
    (h1 : m ((c.tc : Thread ReferenceIdeal.nD ReferenceIdeal.τ).loc ReferenceIdeal.main_arg1) = x1)
    (h2 : m ((c.tc : Thread ReferenceIdeal.nD ReferenceIdeal.τ).loc ReferenceIdeal.main_arg2) = x2)
    (h3 : m ((c.tc : Thread ReferenceIdeal.nD ReferenceIdeal.τ).loc ReferenceIdeal.main_arg3) = x3)
    (h4 : m ((c.tc : Thread ReferenceIdeal.nD ReferenceIdeal.τ).loc ReferenceIdeal.main_arg4) = x4)
    (h5 : m ((c.tc : Thread ReferenceIdeal.nD ReferenceIdeal.τ).loc ReferenceIdeal.main_arg5) = x5)
    (h6 : m ((c.tc : Thread ReferenceIdeal.nD ReferenceIdeal.τ).loc ReferenceIdeal.main_arg6) = x6)
    (h7 : m ((c.tc : Thread ReferenceIdeal.nD ReferenceIdeal.τ).loc ReferenceIdeal.main_arg7) = x7)
    (h8 : m ((c.tc : Thread ReferenceIdeal.nD ReferenceIdeal.τ).loc ReferenceIdeal.main_arg8) = x8) :
    ReferenceIdeal.Value.res_main_v232 (F := Ideal) (StableHlo.launchContents m c)
      = ReferenceIdeal.Read.val_main_v232 (F := Ideal) x0 x1 x2 x3 x4 x5 x6 x7 x8 := by
  subst h0 h1 h2 h3 h4 h5 h6 h7 h8
  rfl

/-- Where the precondition holds and the arguments agree, the idealized kernel and the idealized reference leave the
    same values and the same indices. -/
theorem algebraic : Cert.algebraic_KernelIdeal_ReferenceIdeal_pre_logits_above_threshold := by
  intro m g m' g' pre args
  refine ⟨_, _, KernelRun.run m g, ?_⟩
  refine (θ_run Cert.ReferenceIdeal.defs _ _).mono (fun r h c => ?_) (Cert.ReferenceIdeal.Value.run m' g')
  obtain ⟨a0, a1, a2, a3, a4, a5, a6, a7, a8⟩ := args c
  have q := masked_row m' c _ _ _ _ _ _ _ _ _ a0 a1 a2 a3 a4 a5 a6 a7 a8
  have w := KernelRun.left_logits m g c _ _ _ _ _ _ _ _ _ rfl rfl rfl rfl rfl rfl rfl rfl rfl
  obtain ⟨i, v⟩ := Equation.tops_eq _ _ _ _ _ _ _ _ _ (pre c)
  refine ⟨(h c).1.trans ?_, (h c).2.1.trans ?_, (h c).2.2⟩
  · rw [q]
    exact (v.symm.trans (KernelRun.end_values m g c _ _ _ _ _ _ _ _ _ w).symm)
  · rw [q]
    exact (i.symm.trans (KernelRun.end_indices m g c _ _ _ _ _ _ _ _ _ w).symm)

/-- The certificate's claim. -/
theorem claim : Cert.Claim :=
  ⟨Cert.Kernel.Gen.facts, Cert.KernelIdeal.Gen.facts, Cert.ReferenceIdeal.Gen.facts, Threshold.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
